-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S102400000 : Shape := ⟨1, ![102400000]⟩
abbrev S16 : Shape := ⟨1, ![16]⟩
abbrev S_ : Shape := ⟨0, ![]⟩
abbrev S128 : Shape := ⟨1, ![128]⟩
abbrev S1 : Shape := ⟨1, ![1]⟩

abbrev nBuf : Table → Nat
  | .hbm => 6
  | .local .scVector .vmem => 4
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S102400000, .f32⟩
  | .hbm, ⟨3, _⟩ => ⟨S16, .f32⟩
  | .hbm, ⟨4, _⟩ => ⟨S1, .f32⟩
  | .hbm, ⟨5, _⟩ => ⟨S_, .f32⟩
  | .local .scVector .vmem, ⟨0, _⟩ => ⟨S1024, .i32⟩
  | .local .scVector .vmem, ⟨1, _⟩ => ⟨S1024, .i32⟩
  | .local .scVector .vmem, ⟨2, _⟩ => ⟨S1024, .f32⟩
  | .local .scVector .vmem, ⟨3, _⟩ => ⟨S16, .f32⟩
  | _, _ => ⟨S1024x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_chk1 (i : grid0.Coords) (v633 : IVec S16 32) : Prop :=
  (∀ (k0_h1 : k0_cond1 i = 1#1), ∀ a x, ((![v633] : Fin 1 → IVec S16 32) a x).toNat < S16.size a)
theorem k0_idx1_inb : ∀ (i : grid0.Coords) (v633 : IVec S16 32) (k0_hw1 : k0_chk1 i v633), ∀ (k0_h1 : k0_cond1 i = 1#1), ∀ a x, ((![v633] : Fin 1 → IVec S16 32) a x).toNat < S16.size a := fun i v633 k0_hw1 k0_h1 => k0_hw1 k0_h1

def k0_chk2 (i : grid0.Coords) (v640 : IVec S16 32) : Prop :=
  (∀ (k0_h1 : k0_cond1 i = 1#1), ∀ a x, ((![v640] : Fin 1 → IVec S16 32) a x).toNat < S16.size a)
theorem k0_idx2_inb : ∀ (i : grid0.Coords) (v640 : IVec S16 32) (k0_hw2 : k0_chk2 i v640), ∀ (k0_h1 : k0_cond1 i = 1#1), ∀ a x, ((![v640] : Fin 1 → IVec S16 32) a x).toNat < S16.size a := fun i v640 k0_hw2 k0_h1 => k0_hw2 k0_h1

def k0_chk3 (i : grid0.Coords) (v647 : IVec S16 32) : Prop :=
  (∀ (k0_h1 : k0_cond1 i = 1#1), ∀ a x, ((![v647] : Fin 1 → IVec S16 32) a x).toNat < S16.size a)
theorem k0_idx3_inb : ∀ (i : grid0.Coords) (v647 : IVec S16 32) (k0_hw3 : k0_chk3 i v647), ∀ (k0_h1 : k0_cond1 i = 1#1), ∀ a x, ((![v647] : Fin 1 → IVec S16 32) a x).toNat < S16.size a := fun i v647 k0_hw3 k0_h1 => k0_hw3 k0_h1

def k0_chk4 (i : grid0.Coords) (v654 : IVec S16 32) : Prop :=
  (∀ (k0_h1 : k0_cond1 i = 1#1), ∀ a x, ((![v654] : Fin 1 → IVec S16 32) a x).toNat < S16.size a)
theorem k0_idx4_inb : ∀ (i : grid0.Coords) (v654 : IVec S16 32) (k0_hw4 : k0_chk4 i v654), ∀ (k0_h1 : k0_cond1 i = 1#1), ∀ a x, ((![v654] : Fin 1 → IVec S16 32) a x).toNat < S16.size a := fun i v654 k0_hw4 k0_h1 => k0_hw4 k0_h1
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S_, .i32⟩
  | .hbm, ⟨4, _⟩ => ⟨S1024x1, .i32⟩
  | .hbm, ⟨5, _⟩ => ⟨S1024x1, .i1⟩
  | .hbm, ⟨6, _⟩ => ⟨S_, .i32⟩
  | .hbm, ⟨7, _⟩ => ⟨S1024x1, .i32⟩
  | .hbm, ⟨8, _⟩ => ⟨S1024x1, .i32⟩
  | .hbm, ⟨9, _⟩ => ⟨S1024x1, .i32⟩
  | .hbm, ⟨10, _⟩ => ⟨S1024x1x1, .i32⟩
  | .hbm, ⟨11, _⟩ => ⟨S1, .i32⟩
  | .hbm, ⟨12, _⟩ => ⟨S_, .i32⟩
  | .hbm, ⟨13, _⟩ => ⟨S1024x1x1, .i32⟩
  | .hbm, ⟨14, _⟩ => ⟨S1024x1x1, .i1⟩
  | .hbm, ⟨15, _⟩ => ⟨S1x1x1, .i32⟩
  | .hbm, ⟨16, _⟩ => ⟨S1024x1x1, .i32⟩
  | .hbm, ⟨17, _⟩ => ⟨S1024x1x1, .i1⟩
  | .hbm, ⟨18, _⟩ => ⟨S1024x1x1, .i1⟩
  | .hbm, ⟨19, _⟩ => ⟨S_, .i1⟩
  | .hbm, ⟨20, _⟩ => ⟨S1024x1, .i1⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024, .f32⟩
  | .hbm, ⟨26, _⟩ => ⟨S_, .f32⟩
  | .hbm, ⟨27, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.StreamBatch.lean ====
/-
  SEVERAL INDIRECT GATHERS OUTSTANDING ON ONE SEMAPHORE. A tile starts several row-by-row gathers, all counted on one
  semaphore, and only then waits, once per gather. Each gather is a run of ROW transfers of one common amount, so all of
  them together are one counted batch (Lib/Batch.lean) whose members are the rows: gather `g` issues the members of its
  own run, every wait but the last consumes one gather's worth of units and hands back nothing, the last hands back every
  row. Here: a row's delivery (`rowBack`), the issue of one gather into such a batch (`wp_gatherIntoBatch`), and the
  delivered rows of one gather put together (`rowsBack_join`).
-/
module

public import Idealize.ShloMosaic.Lib.SparseCore.Stream
public import Idealize.ShloMosaic.Lib.Batch

@[expose] public section

noncomputable section

namespace Cert.Proof.StreamBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-! ## The members of a batch still to be issued -/

/-- The members from number `k` on are the next `o` of them, by their place among those, and the members from number
    `k + o` on. -/
theorem bigSep_pending_run {n : ℕ} (Φ : Fin n → sProp 𝕄) (k o : ℕ) (h : k + o ≤ n) :
    bigSep (Transfers.pending k) Φ
      = iprop((bigSep Finset.univ fun j : Fin o => Φ ⟨k + j.val, Nat.lt_of_lt_of_le (Nat.add_lt_add_left j.isLt k) h⟩)
          ∗ bigSep (Transfers.pending (k + o)) Φ) := by
  let e : Fin o ↪ Fin n :=
    ⟨fun j => ⟨k + j.val, Nat.lt_of_lt_of_le (Nat.add_lt_add_left j.isLt k) h⟩, fun a b hab => Fin.ext (by
      have := congrArg Fin.val hab; simp only at this; omega)⟩
  have hset : (Transfers.pending k : Finset (Fin n)) = Finset.univ.map e ∪ Transfers.pending (k + o) := by
    ext t
    simp only [Transfers.pending, Finset.mem_union, Finset.mem_map, Finset.mem_filter, Finset.mem_univ, true_and]
    constructor
    · intro hk
      by_cases ho : k + o ≤ t.val
      · exact .inr ho
      · exact .inl ⟨⟨t.val - k, by omega⟩, Fin.ext (by change k + (t.val - k) = t.val; omega)⟩
    · rintro (⟨j, rfl⟩ | ho)
      · exact Nat.le_add_right _ _
      · omega
  have hdis : Disjoint (Finset.univ.map e) (Transfers.pending (k + o) : Finset (Fin n)) := by
    refine Finset.disjoint_left.mpr fun t ht ht' => ?_
    obtain ⟨j, -, rfl⟩ := Finset.mem_map.mp ht
    have h1 : k + o ≤ k + j.val := (Finset.mem_filter.mp ht').2
    omega
  rw [hset, BI.bigSep_union hdis, BI.bigSep_map]
  rfl

/-! ## One gather: its rows, their deliveries -/

variable (c : Thread nD τ) {sp : Space} {s₀ s si : Shape} {e : EltTy} {a : Nat}

section Row

variable (src : Memref sig c.2.kind sp s₀ e) (dst : Memref sig c.2.kind .vmem s e) (hg : s₀.Gathers a s)
variable (offs : Memref sig c.2.kind .vmem si .i32) (hn : si.numel = s.size hg.axis')
variable (q qo : PosShare TreeShare) (fs : Buf (Elt F) (src.view.loc c)) (fd : Buf (Elt F) (dst.view.loc c))
variable (fo : Buf (Elt F) (offs.view.loc c)) (hin : ∀ x, (offs.view.read (Elt F) fo x).toNat < s₀.size hg.axis)

/-- Which word of the list row `j` reads: the `j`-th in row-major order. -/
abbrev entryOf (j : Fin (s.size hg.axis')) : si.Idx := si.rowMajor.symm (j.cast hn.symm)

/-- What row `j` of the source's named row is, element by element. -/
abbrev rowWords (j : Fin (s.size hg.axis')) : (s.rowShape hg.axis').Idx → Elt F e :=
  fun i => src.view.read (Elt F) fs (hg.rowIdx (rows (offs.view.read (Elt F) fo) hn hin j) i)

variable (ho : 0 < s.size hg.axis')

/-- What the transfer of row `j` brings back: row `j` of the destination written with the source row its word names, the
    word's own share, and the piece of the source's share it travelled with. -/
def rowBack (j : Fin (s.size hg.axis')) : sProp 𝕄 :=
  iprop((dst.view.loc c ↦[(dst.view.slice (s.rowRect hg.axis' j)).set]{fullShare}
        ((dst.view.slice (s.rowRect hg.axis' j)).write (Elt F) fd (rowWords c src hg offs hn fs fo hin j) Finset.univ))
    ∗ (offs.view.loc c ↦[{offs.view.emb (entryOf hg hn j)}]{qo} fo)
    ∗ (src.view.loc c ↦[src.view.set]{pieceOf q _ ho j} fs))

instance rowBack_storable (j : Fin (s.size hg.axis')) :
    Storable (upEmb : UEmb _ 𝕄) (rowBack (Ix := Ix) (Name := Name) (U := U) (Lvl := Lvl) c src dst hg offs hn q qo fs fd fo hin ho j) := by
  unfold rowBack; infer_instance

/-- All of a gather's rows delivered are its destination written with the gather's payload, the list's share and the
    source's share whole again. -/
theorem rowsBack_join :
    bigSep Finset.univ (rowBack (Ix := Ix) (Name := Name) (U := U) (Lvl := Lvl) c src dst hg offs hn q qo fs fd fo hin ho)
      ⊢ (iprop((dst.view.loc c ↦[dst.view.set]{fullShare}
            (dst.view.write (Elt F) fd (gatherPayload hg (src.view.read (Elt F) fs) (rows (offs.view.read (Elt F) fo) hn hin)) Finset.univ))
          ∗ (offs.view.loc c ↦[offs.view.set]{qo} fo) ∗ (src.view.loc c ↦[src.view.set]{q} fs)) : sProp 𝕄) := by
  have hen : Function.Bijective (entryOf hg hn) := si.rowMajor.symm.bijective.comp (finCongr hn.symm).bijective
  unfold rowBack
  rw [BI.bigSep_sep', BI.bigSep_sep']
  iintro ⟨Hd, Ho, Hs⟩
  isplitl [Hd]
  · iapply (pointsTo_rows_write c dst.view hg.axis' fd (rowWords c src hg offs hn fs fo hin)
      (gatherPayload hg (src.view.read (Elt F) fs) (rows (offs.view.read (Elt F) fo) hn hin))
      fun k j => by unfold gatherPayload; rw [Shape.Gathers.idx_rowRect_emb]) $$ Hd
  isplitl [Ho]
  · iapply (Entails.of_eq (pointsTo_entries c offs.view (entryOf hg hn) hen qo fo).symm) $$ Ho
  · iapply (Entails.of_eq (pointsTo_piecesOf src.view.set fs ho q).symm) $$ Hs

end Row

variable [Infinite Name] [Preorder Lvl] {Λ : Labels} {defs : Defs nD τ sig (Elt F) Λ}
variable (EC : UEmb Counters (MT nD τ sig Ix (Elt F) Name U Lvl)) (𝒱 : Variants) (bd : Option 𝒱.V)
variable {α : Type} {Q : α → sProp (MT nD τ sig Ix (Elt F) Name U Lvl)}

/-- THE ISSUE of one gather into a batch of rows, `k` of them issued: a tile holding the destination outright, a share of
    the source and a share of the list, whose words all name rows of the source, starts the gather and goes on with the
    batch at `k'`, its rows further. The batch's members `k …` must be what the gather's rows bring back, at least. -/
theorem wp_gatherIntoBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (hin : ∀ x, (offs.view.read (Elt F) fo x).toNat < s₀.size hg.axis) (ho : 0 < s.size hg.axis')
    (ι : Ix) (N : ℕ) (hN : ∀ j, (dst.slice (s.rowRect hg.axis' j) (s.stride_rowRect hg.axis' j)).view.dmaCredit = N)
    {n : ℕ} {D : Fin n → sProp 𝕄} {k u : ℕ} (k' : ℕ) (hk : k + s.size hg.axis' = k') (hk' : k' ≤ n) (hu : u ≤ k * N)
    (hD : ∀ j : Fin (s.size hg.axis'), rowBack c src dst hg offs hn q qo fs fd fo hin ho j
      ⊢ D ⟨k + j.val, Nat.lt_of_lt_of_le (Nat.add_lt_add_left j.isLt k) (hk ▸ hk')⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k u)
      ⊢ iprop((Transfers.Batch EC c (.dma sem) ι N D k' u -∗ wp frame (wpE defs 𝒱 c bd) Set.univ (kont ⟨⟩) Q)
          -∗ wp frame (wpE defs 𝒱 c bd) Set.univ (enqueueIndirectGather hp src dst hg offs hn sem hsrc he hsp hr >>= kont) Q) := by
  subst hk
  rw [enqueueIndirectGather_bind]
  have hen : Function.Bijective (entryOf hg hn) := si.rowMajor.symm.bijective.comp (finCongr hn.symm).bijective
  unfold Transfers.Batch
  iintro ⟨Hs, Hd, Ho, ⟨%γ, %γ₀, %κ, #Hinv, HI, H0, Hcred⟩⟩ Hk
  ihave HI := (Entails.of_eq (bigSep_pending_run (fun t => count EC (γ t) 0) k (s.size hg.axis') hk')) $$ HI
  icases HI with ⟨Hnow, Hlater⟩
  ihave Hd := (Entails.of_eq (pointsTo_rows c dst.view hg.axis' fullShare fd)) $$ Hd
  ihave Ho := (Entails.of_eq (pointsTo_entries c offs.view (entryOf hg hn) hen qo fo)) $$ Ho
  ihave Hs := (Entails.of_eq (pointsTo_piecesOf src.view.set fs ho q)) $$ Hs
  iapply (wp_enqueueIndirectDma 𝒱 c bd Set.univ (qo := qo) (fo := fo)
    (rd := fun j => gatherRow c src dst hg sem hsrc he hsp hr j (rows (offs.view.read (Elt F) fo) hn hin j)) ι (s.size hg.axis' * N)
    (by
      intro j w w' ρ ρ' h h'
      obtain ⟨_, _, rfl⟩ := Option.map_eq_some_iff.mp h
      obtain ⟨_, _, rfl⟩ := Option.map_eq_some_iff.mp h'
      rfl)
    (fun j => by
      change (rowOf (s₀.size hg.axis) (offs.view.read (Elt F) fo (entryOf hg hn j))).map _ = _
      rw [rowOf_of_lt (hin _)]; rfl)
    ((Finset.sum_congr rfl fun j _ => hN j).trans (by simp))) $$ [Hd Ho Hs Hnow]
  · unfold Stream.res
    have hone : ∀ j : Fin (s.size hg.axis'),
        iprop(inv κ (Transfers.batchBody EC (c, SemLoc.dma sem) N D γ γ₀)
            ∗ ((dst.view.loc c ↦[(dst.view.slice (s.rowRect hg.axis' j)).set]{fullShare} fd)
              ∗ (offs.view.loc c ↦[{offs.view.emb (entryOf hg hn j)}]{qo} fo)
              ∗ (src.view.loc c ↦[src.view.set]{pieceOf q _ ho j} fs)
              ∗ count EC (γ ⟨k + j.val, Nat.lt_of_lt_of_le (Nat.add_lt_add_left j.isLt k) hk'⟩) 0))
          ⊢ (iprop((offs.view.loc c ↦[{offs.view.emb (entryOf hg hn j)}]{qo} fo)
              ∗ ((offs.view.loc c ↦[{offs.view.emb (entryOf hg hn j)}]{qo} fo)
                -∗ rowRes c (gatherRow c src dst hg sem hsrc he hsp hr j (rows (offs.view.read (Elt F) fo) hn hin j)))) : sProp 𝕄) := fun j => by
      iintro ⟨#Hinv, Hrow, Hent, Hpiece, Hcnt⟩
      isplitl [Hent]; · iexact Hent
      iintro Hent
      unfold rowRes
      iexists pieceOf q _ ho j, fs, iprop((dst.view.loc c ↦[(dst.view.slice (s.rowRect hg.axis' j)).set]{fullShare}
          ((dst.view.slice (s.rowRect hg.axis' j)).write (Elt F) fd (rowWords c src hg offs hn fs fo hin j) Finset.univ))
        ∗ (offs.view.loc c ↦[{offs.view.emb (entryOf hg hn j)}]{qo} fo))
      isplitl [Hpiece]; · iexact Hpiece
      isplitl [Hrow Hent]
      · iapply writeUpdate_frame
        isplitl [Hrow]
        · iapply (pointsTo_writeUpdate c (v := dst.view.slice (s.rowRect hg.axis' j)) subset_rfl) $$ Hrow
        · iexact Hent
      · have hback := hD j
        unfold rowBack at hback
        have hback' := sep_assoc.1.trans hback
        rw [show (gatherRow c src dst hg sem hsrc he hsp hr j (rows (offs.view.read (Elt F) fo) hn hin j)).dst.view.amount (SemLoc.dma sem) = N from hN j]
        iapply (Transfers.batch_creditUpdate EC (D := D) _ hback')
        isplitr; · iexact Hinv
        iexact Hcnt
    ihave H := Transfers.bigSep_sep_in _ _ _ $$ [Hs Hnow]; · isplitl [Hs] <;> iassumption
    ihave H := Transfers.bigSep_sep_in _ _ _ $$ [Ho H]; · isplitl [Ho] <;> iassumption
    ihave H := Transfers.bigSep_sep_in _ _ _ $$ [Hd H]; · isplitl [Hd] <;> iassumption
    iapply (Transfers.bigSep_mono_pers Finset.univ _ _ _ fun j _ => hone j)
    isplitr; · iexact Hinv
    iexact H
  iintro Hcred'
  iapply Hk
  iexists γ, γ₀, κ
  isplitr; · iexact Hinv
  isplitl [Hlater]; · iexact Hlater
  isplitl [H0]; · iexact H0
  rw [show (k + s.size hg.axis') * N - u = (k * N - u) + s.size hg.axis' * N by rw [Nat.add_mul]; omega, ← tallyAt_add]
  icombine Hcred Hcred' as H
  iexact H

end Cert.Proof.StreamBatch

end
-- ==== Proof.Setup.lean ====
/-
  THE LAUNCH'S SET-UP and the values the run computes, over any float values `F`: the program as the launch theorem
  reads it, the resource algebra, the buffers, what each handshake carries, and the contents a run leaves: the flat
  table, the words' positions in it, the words gathered, the sixteen running sums, and their fold.
-/
module

public import proofs.«01_k».proof.Defs
public import proofs.«01_k».proof.Proof.StreamBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The values -/

/-- Where the word of row `x` stands in the flat table, as the tile computes it: the row number times the row length,
    and the row's index, in 32-bit words. -/
def posOf (y : S1024.Idx → BitVec 32) (x : S1024.Idx) : BitVec 32 := BitVec.ofNat 32 (x 0).val * 100000#32 + y x

/-- The flat table's element number `n`. -/
def flatIx (n : ℕ) : S102400000.Idx := fun | 0 => ⟨n % 102400000, Nat.mod_lt _ (by decide)⟩

/-- The words gathered: row `x`'s. -/
def gotOf (t : S102400000.Idx → Elt F .f32) (y : S1024.Idx → BitVec 32) (x : S1024.Idx) : Elt F .f32 := t (flatIx (posOf y x).toNat)

/-- Row `16 n + l`, for lane `l`. -/
def rowAt (n : ℕ) (l : S16.Idx) : S1024.Idx := fun | 0 => ⟨(16 * n + (l 0).val) % 1024, Nat.mod_lt _ (by decide)⟩

variable [FloatOps F]

/-- The sixteen running sums after `n` groups of sixteen rows, from zero. -/
def accOf (g : S1024.Idx → Elt F .f32) : ℕ → FVec F S16 .f32
  | 0 => broadcast S16 (Scalar.ofBits .f32 0x00000000#32 : F .f32)
  | n + 1 => addf (accOf g n) (fun l => g (rowAt n l))

/-- The lane `k` further round, of each lane. -/
def rotIx (k : BitVec 32) : IVec S16 32 := andi (addi (iota .scVector S16 32 [0] iota_S16_d0_w32_scVector) (broadcast S16 k)) (broadcast S16 15#32)

theorem rotIx_lt (k : BitVec 32) : ∀ a x, ((![rotIx k] : Fin 1 → IVec S16 32) a x).toNat < S16.size a := by
  intro a x
  match a with
  | 0 =>
    show (IntOp.andi _ 15#32).toNat < 16
    unfold IntOp.andi
    rw [BitVec.toNat_and]
    exact Nat.lt_of_le_of_lt Nat.and_le_right (by decide)

/-- One step of the fold across lanes: each lane and the lane `k` further round, added. -/
def foldStep (k : BitVec 32) (v : FVec F S16 .f32) : FVec F S16 .f32 := addf v (loadIdx (F := F) (e := .f32) v ![rotIx k] (rotIx_lt k))

/-- What the tile writes out: the sixteen sums folded by eight, four, two and one lanes. -/
def outOf (t : S102400000.Idx → Elt F .f32) (y : S1024.Idx → BitVec 32) : FVec F S16 .f32 :=
  foldStep 1#32 (foldStep 2#32 (foldStep 4#32 (foldStep 8#32 (accOf (gotOf t y) 64))))

omit [FloatOps F] in
/-- An index in range puts the row's word inside its row of the table. -/
theorem posOf_toNat {y : S1024.Idx → BitVec 32} (hy : ∀ x, (y x).toNat < 100000) (x : S1024.Idx) :
    (posOf y x).toNat = (x 0).val * 100000 + (y x).toNat := by
  have hx : (x 0).val < 1024 := (x 0).isLt
  have := hy x
  unfold posOf
  simp only [BitVec.toNat_add, BitVec.toNat_mul, BitVec.toNat_ofNat]
  omega

omit [FloatOps F] in
theorem posOf_lt {y : S1024.Idx → BitVec 32} (hy : ∀ x, (y x).toNat < 100000) (x : S1024.Idx) : (posOf y x).toNat < 102400000 := by
  have hx : (x 0).val < 1024 := (x 0).isLt
  have := hy x
  rw [posOf_toNat hy x]; omega

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
/-- What the launch theorem asks of the launch semaphores and the buffers' owners, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The table, the indices, the flat table, the tile's result, its first lane, the result. -/
abbrev aLoc (d : Dev nD) : Loc nD τ sig := (SparseCore.T d).loc main_arg0
abbrev yLoc (d : Dev nD) : Loc nD τ sig := (SparseCore.T d).loc main_arg1
abbrev tLoc (d : Dev nD) : Loc nD τ sig := (SparseCore.T d).loc main_v0
abbrev rLoc (d : Dev nD) : Loc nD τ sig := (SparseCore.T d).loc main_v1
abbrev fLoc (d : Dev nD) : Loc nD τ sig := (SparseCore.T d).loc main_v2
abbrev oLoc (d : Dev nD) : Loc nD τ sig := (SparseCore.T d).loc main_v3

/-- What the flat table holds when the tile reads it: the table, row after row. -/
abbrev tabV (d : Dev nD) : Buf (Elt F) (tLoc d) := shapeCast S102400000 (m (aLoc d)) shapeCasts_S1024x100000_S102400000
/-- What the tile leaves. -/
abbrev resV (d : Dev nD) : Buf (Elt F) (rLoc d) := outOf (tabV m d) (m (yLoc d))

/-! ## What the handshakes carry -/

abbrev yPts (d : Dev nD) : sProp 𝕄 := yLoc d ↦{fullShare} m (yLoc d)
abbrev tPts (d : Dev nD) : sProp 𝕄 := tLoc d ↦{fullShare} tabV m d
abbrev rPts (d : Dev nD) (f : Buf (Elt F) (rLoc d)) : sProp 𝕄 := rLoc d ↦{fullShare} f

/-- What the call takes, and its one working tile: the flat table, the indices and the result's buffer, whole. -/
abbrev opIn (d : Dev nD) : sProp 𝕄 := iprop(tPts m d ∗ yPts m d ∗ rPts d (m (rLoc d)))
/-- What comes back: the same, the result's buffer at the folded sums. -/
abbrev opOut (d : Dev nD) : sProp 𝕄 := iprop(tPts m d ∗ yPts m d ∗ rPts d (resV m d))

/-- The call takes and returns its operands whole; tile 0 takes all of them, the other tiles nothing. -/
def P : (K (F := F)).Pay (nD := nD) (Val := Elt F) (Name := ℕ) (U := UU) where
  st := fun q d _ => match q with | 0 => opIn m d
  dn := fun q d _ => match q with | 0 => opOut m d
  go := fun q d _ i => match q with | 0 => if i.val = 0 then opIn m d else iprop(emp)
  td := fun q d _ i => match q with | 0 => if i.val = 0 then opOut m d else iprop(emp)
  x := fun _ _ => iprop(emp)

instance P_storable : (P (F := F) m).IsStorable where
  st q d _ := match q with
    | 0 => (inferInstance : BI.Storable (upEmb : UEmb _ 𝕄) (opIn m d))
  dn q d _ := match q with
    | 0 => (inferInstance : BI.Storable (upEmb : UEmb _ 𝕄) (opOut m d))
  go q d _ i := match q with
    | 0 => by
      show BI.Storable (upEmb : UEmb _ 𝕄) (if i.val = 0 then opIn m d else iprop(emp))
      split <;> infer_instance
  td q d _ i := match q with
    | 0 => by
      show BI.Storable (upEmb : UEmb _ 𝕄) (if i.val = 0 then opOut m d else iprop(emp))
      split <;> infer_instance

/-- What the proof asks of the launch memory: every index names a column of the table. -/
def PreOK : Prop := ∀ (d : Dev nD) (x : S1024.Idx), (m (yLoc d) x).toNat < 100000

end Cert.Proof.Sum

end
-- ==== Proof.Streams.lean ====
/-
  THE EIGHT GATHERS. Gather `c` reads the words that positions `128 c … 128 c + 127` of the list name, out of the flat
  table, into the same places of the gathered buffer. All eight are counted on one semaphore, so they are one batch of
  1024 rows. Here: the resources split by gather, the issue of gather `c`, the wait of one gather's amount, and what
  all the rows delivered come to: the buffer at the words gathered.
-/
module

public import proofs.«01_k».proof.Proof.Setup

@[expose] public section

noncomputable section

namespace Cert.Proof.Sum

open Cert.KernelIdeal Cert.KernelIdeal.Gen

open Idealize.ShloMosaic
open Idealize.ShloMosaic.SparseCore (S V T rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.StreamBatch

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S102400000 EltTy.f32)
local notation "wI" => (Memref.whole Cert.KernelIdeal.cc0_scratch1 : Memref Cert.KernelIdeal.sig Kind.scVector Space.vmem Cert.KernelIdeal.S1024 EltTy.i32)
local notation "wG" => (Memref.whole Cert.KernelIdeal.cc0_scratch2 : Memref Cert.KernelIdeal.sig Kind.scVector Space.vmem Cert.KernelIdeal.S1024 EltTy.f32)

/-! ## The windows -/

theorem inbW (c : Fin 8) : ∀ a, (![128 * c.val] : Fin 1 → ℕ) a + S128.size a ≤ S1024.size a := by
  intro a
  match a with
  | 0 => have := c.isLt; show 128 * c.val + 128 ≤ 1024; omega

/-- Positions `128 c … 128 c + 127`. -/
abbrev rectW (c : Fin 8) : Rect S1024 := Rect.unit (s := S1024) ![128 * c.val] S128.size (inbW c)

/-- The flat table, as each gather names it: all of it. -/
abbrev tW : Memref sig Kind.scVector Space.hbm S102400000 EltTy.f32 :=
  (tV).slice (Rect.unit (s := S102400000) ![0] S102400000.size inb_S102400000_S102400000_0) (fun _ => rfl)
/-- Gather `c`'s window of the gathered buffer. -/
abbrev gW (c : Fin 8) : Memref sig Kind.scVector Space.vmem S128 EltTy.f32 := (wG).slice (rectW c) (fun _ => rfl)
/-- Gather `c`'s window of the list. -/
abbrev iW (c : Fin 8) : Memref sig Kind.scVector Space.vmem S128 EltTy.i32 := (wI).slice (rectW c) (fun _ => rfl)

theorem part8 : 8 ∣ S1024.size 0 := ⟨128, rfl⟩

theorem rectW_eq (c : Fin 8) : rectW c = Rect.part (s := S1024) (a₀ := 0) part8 c := by
  unfold rectW Rect.part Rect.block
  congr 1 <;> funext a
  · match a with
    | 0 => simp [Shape.partIx, Shape.partSize, Nat.mul_comm]
  · match a with
    | 0 => simp [Shape.partSize]

theorem set_gW (c : Fin 8) : (gW c).view.set = (Rect.part (s := S1024) (a₀ := 0) part8 c).set := by
  rw [← rectW_eq]; exact View.set_slice_whole _ _
theorem set_iW (c : Fin 8) : (iW c).view.set = (Rect.part (s := S1024) (a₀ := 0) part8 c).set := by
  rw [← rectW_eq]; exact View.set_slice_whole _ _

theorem set_tW : (tW).view.set = Finset.univ := by
  rw [show (tW).view.set = (Rect.unit (s := S102400000) ![0] S102400000.size inb_S102400000_S102400000_0).set from View.set_slice_whole _ _]
  ext i
  simp only [Rect.mem_set_unit, Finset.mem_univ, iff_true]
  intro a
  match a with
  | 0 => exact ⟨Nat.zero_le _, by have := (i 0).isLt; show (i 0).val < 0 + 102400000; rw [Nat.zero_add]; exact this⟩

theorem parts_disjoint : ∀ t ∈ (Finset.univ : Finset (Fin 8)), ∀ t' ∈ (Finset.univ : Finset (Fin 8)), t ≠ t' →
    Disjoint (Rect.part (s := S1024) (a₀ := 0) part8 t).set (Rect.part (s := S1024) (a₀ := 0) part8 t').set :=
  fun _ _ _ _ h => Rect.part_disjoint part8 h

/-! ## The rows of the eight gathers, one batch -/

section Rows

variable (d : Dev nD) (cc : Fin τ.nSC) (ii : Fin τ.nSub)
variable (t : S102400000.Idx → Elt F .f32) (y : S1024.Idx → BitVec 32) (hy : ∀ x, (y x).toNat < 100000) (fG : S1024.Idx → Elt F .f32)

include hy in
/-- The list's words name elements of the flat table. -/
theorem list_lt (c : Fin 8) (x : S128.Idx) :
    ((iW c).view.read (Elt F) (posOf y) x).toNat < S102400000.size (gathers_S102400000_S128).axis := by
  show (posOf y _).toNat < 102400000
  exact posOf_lt hy _

theorem pos8 : 0 < 8 := by decide
theorem pos128 : 0 < S128.size (gathers_S102400000_S128).axis' := by decide

/-- What row `j` of gather `c` brings back. -/
def backOf (c : Fin 8) (j : Fin 128) : sProp 𝕄 :=
  rowBack (V d cc ii) tW (gW c) gathers_S102400000_S128 (iW c) rfl (pieceOf fullShare 8 pos8 c) fullShare t fG (posOf y) (list_lt y hy c) pos128 j

/-- The batch's member number `n`: row `n % 128` of gather `n / 128`. -/
def memberOf (n : Fin 1024) : sProp 𝕄 := backOf d cc ii t y hy fG ⟨n.val / 128, by omega⟩ ⟨n.val % 128, by omega⟩

instance memberOf_storable (n : Fin 1024) : Storable (upEmb : UEmb _ 𝕄) (memberOf d cc ii t y hy fG n) := by
  unfold memberOf backOf; exact rowBack_storable ..

theorem memberOf_at (c : Fin 8) (j : Fin 128) (h : 128 * c.val + j.val < 1024) :
    memberOf (F := F) d cc ii t y hy fG ⟨128 * c.val + j.val, h⟩ = backOf d cc ii t y hy fG c j := by
  unfold memberOf
  congr 1 <;> refine Fin.ext ?_ <;> simp only <;> omega

/-- What gather `c` is given: a share of the table, its window of the gathered buffer, its window of the list. -/
def givenOf (c : Fin 8) : sProp 𝕄 :=
  iprop(((tW).view.loc (V d cc ii) ↦[(tW).view.set]{pieceOf fullShare 8 pos8 c} t)
    ∗ ((gW c).view.loc (V d cc ii) ↦[(gW c).view.set]{fullShare} fG)
    ∗ ((iW c).view.loc (V d cc ii) ↦[(iW c).view.set]{fullShare} posOf y))

/-- The table, the gathered buffer and the list whole are what the eight gathers are given. -/
theorem given_split :
    (iprop(((tV).view.loc (V d cc ii) ↦{fullShare} t) ∗ ((wG).view.loc (V d cc ii) ↦{fullShare} fG) ∗ ((wI).view.loc (V d cc ii) ↦{fullShare} posOf y)) : sProp 𝕄)
      = bigSep Finset.univ (givenOf d cc ii t y fG) := by
  unfold givenOf
  rw [BI.bigSep_sep', BI.bigSep_sep']
  congr 1
  · rw [set_tW]
    have h := pointsTo_piecesOf (ℓ := (tV).view.loc (V d cc ii)) (Ix := HIx 1) (Name := ℕ) (U := UU) (Lvl := ℕ) Finset.univ t pos8 fullShare
    exact h
  congr 1
  · rw [show ((wG).view.loc (V d cc ii) ↦{fullShare} fG : sProp 𝕄)
      = ((wG).view.loc (V d cc ii) ↦[(Finset.univ : Finset (Fin 8)).biUnion fun c => (Rect.part (s := S1024) (a₀ := 0) part8 c).set]{fullShare} fG) from by
        rw [Rect.biUnion_part]]
    rw [pointsTo_biUnion _ _ parts_disjoint]
    exact BI.bigSep_congr fun c _ => by rw [set_gW]
  · rw [show ((wI).view.loc (V d cc ii) ↦{fullShare} posOf y : sProp 𝕄)
      = ((wI).view.loc (V d cc ii) ↦[(Finset.univ : Finset (Fin 8)).biUnion fun c => (Rect.part (s := S1024) (a₀ := 0) part8 c).set]{fullShare} posOf y) from by
        rw [Rect.biUnion_part]]
    rw [pointsTo_biUnion _ _ parts_disjoint]
    exact BI.bigSep_congr fun c _ => by rw [set_iW]

/-- What gather `c` writes into its window is, there, the words gathered. -/
theorem window_value (c : Fin 8) : ∀ i ∈ (gW c).view.set,
    (gW c).view.write (Elt F) fG (SparseCore.gatherPayload gathers_S102400000_S128 ((tW).view.read (Elt F) t)
      (rows ((iW c).view.read (Elt F) (posOf y)) rfl (list_lt (F := F) y hy c))) Finset.univ i = gotOf t y i := by
  intro i hi
  obtain ⟨x, -, rfl⟩ := Finset.mem_map.mp hi
  rw [View.write_emb_of_mem _ _ (Finset.mem_univ x)]
  show t _ = t _
  congr 1
  funext a
  match a with
  | 0 =>
    refine Fin.ext ?_
    show 0 + 1 * ((gathers_S102400000_S128).idx (rows ((iW c).view.read (Elt F) (posOf y)) rfl (list_lt (F := F) y hy c)) x (gathers_S102400000_S128).axis).val
      = (posOf y _).toNat % 102400000
    rw [Shape.Gathers.idx_axis]
    rw [Nat.mod_eq_of_lt (posOf_lt hy _), Nat.zero_add, Nat.one_mul]
    show (posOf y _).toNat = (posOf y _).toNat
    congr 2
    funext b
    match b with
    | 0 =>
      refine Fin.ext ?_
      show 128 * c.val + 1 * (S128.rowMajor.symm _ 0).val = 128 * c.val + 1 * (x 0).val
      congr 2
      rw [← Shape.rowMajor_val_one (d := ![128]), ]
      exact congrArg Fin.val (Equiv.apply_symm_apply _ _)

/-- All rows of all gathers delivered: the table and the list as they were, the gathered buffer at the words gathered. -/
theorem members_join :
    bigSep Finset.univ (memberOf (F := F) d cc ii t y hy fG)
      ⊢ (iprop(((tV).view.loc (V d cc ii) ↦{fullShare} t) ∗ ((wG).view.loc (V d cc ii) ↦{fullShare} (gotOf t y : S1024.Idx → Elt F .f32))
          ∗ ((wI).view.loc (V d cc ii) ↦{fullShare} posOf y)) : sProp 𝕄) := by
  rw [given_split d cc ii t y (gotOf t y)]
  rw [BI.bigSep_univ_equiv (finProdFinEquiv : Fin 8 × Fin 128 ≃ Fin 1024), BI.bigSep_univ_prod]
  refine BI.bigSep_mono fun c _ => ?_
  rw [show (fun j : Fin 128 => memberOf (F := F) d cc ii t y hy fG (finProdFinEquiv (c, j))) = backOf d cc ii t y hy fG c from
    funext fun j => by
      have h : 128 * c.val + j.val < 1024 := by have := c.isLt; have := j.isLt; omega
      rw [← memberOf_at d cc ii t y hy fG c j h]
      congr 1
      exact Fin.ext (Nat.add_comm _ _)]
  unfold givenOf
  refine BIBase.Entails.trans (rowsBack_join (V d cc ii) tW (gW c) gathers_S102400000_S128 (iW c) rfl (pieceOf fullShare 8 pos8 c) fullShare t fG (posOf y)
    (list_lt y hy c) pos128) ?_
  rw [pointsTo_congr (window_value t y hy fG c)]
  iintro ⟨Hg, Hi, Ht⟩
  isplitl [Ht]; · iexact Ht
  isplitl [Hg] <;> iassumption

end Rows

theorem row_credit (c : Fin 8) (j : Fin 128) :
    ((gW c).slice (S128.rowRect (gathers_S102400000_S128).axis' j) (S128.stride_rowRect (gathers_S102400000_S128).axis' j)).view.dmaCredit = 32 := by
  rfl
theorem window_credit (c : Fin 8) : (gW c).view.dmaCredit = 128 * 32 := by
  rfl

/-! ## The issues and the waits -/

section Run

variable [FloatOps F]
variable (d : Dev nD) (cc : Fin τ.nSC) (ii : Fin τ.nSub)
variable (t : S102400000.Idx → Elt F .f32) (y : S1024.Idx → BitVec 32) (hy : ∀ x, (y x).toNat < 100000) (fG : S1024.Idx → Elt F .f32)

/-- The batch with gathers `0 … k - 1` started and the amounts of `w` of them waited for. -/
abbrev flightOf (k w : ℕ) : sProp 𝕄 :=
  Transfers.Batch countersEmb (V d cc ii) (.dma cc0_scratch4.sem) (default : HIx 1) 32 (memberOf d cc ii t y hy fG) (128 * k) (w * (128 * 32))

/-- Gathers `0 … k - 1` started, and what the later ones are given still in hand. -/
def startedOf (k : ℕ) : sProp 𝕄 := iprop(flightOf d cc ii t y hy fG k 0 ∗ bigSep (Transfers.pending k) (givenOf (F := F) d cc ii t y fG))

/-- Gather `c` started: its row transfers join the batch. -/
theorem start_gather {α : Type} {Q : α → sProp 𝕄} (c : Fin 8)
    {hp : (V d cc ii : Thread nD τ).2.kind = .scVector} {hsrc : (tW).view.WordExact} {he : EltTy.bits .f32 = 32}
    {hsp : Space.hbm = .hbm ∨ Space.hbm = .shared} {hr : S102400000.StreamRows 0} {hn : S128.numel = S128.size (gathers_S102400000_S128).axis'}
    {kont : PUnit → Prog (TpuEff nD τ sig (Elt F) Λ₀ (V d cc ii : Thread nD τ).2) α} :
    startedOf d cc ii t y hy fG c.val
      ⊢ iprop((startedOf d cc ii t y hy fG (c.val + 1) -∗ wp frame (wpE (defs₀ (F := F)) 𝒱₀ (V d cc ii) none) Set.univ (kont ⟨⟩) Q)
          -∗ wp frame (wpE (defs₀ (F := F)) 𝒱₀ (V d cc ii) none) Set.univ
              (SparseCore.enqueueIndirectGather hp tW (gW c) gathers_S102400000_S128 (iW c) hn cc0_scratch4.sem hsrc he hsp hr >>= kont) Q) := by
  unfold startedOf
  rw [Transfers.bigSep_pending_step _ c.val c.isLt]
  iintro ⟨HB, Hc, Hrest⟩ Hk
  ihave Hc := (Entails.of_eq (show givenOf (F := F) d cc ii t y fG ⟨c.val, c.isLt⟩ = _ by unfold givenOf; rfl)) $$ Hc
  icases Hc with ⟨Ht, Hg, Hi⟩
  have hc := c.isLt
  iapply (wp_gatherIntoBatch (V d cc ii) countersEmb 𝒱₀ none (list_lt y hy c) pos128 (default : HIx 1) 32 (row_credit c)
    (k := 128 * c.val) (u := 0 * (128 * 32)) (128 * (c.val + 1)) (by show 128 * c.val + 128 = _; omega) (by omega) (by omega)
    (fun j => Entails.of_eq (memberOf_at d cc ii t y hy fG c j _).symm)) $$ [Ht Hg Hi HB]
  · isplitl [Ht]; · iexact Ht
    isplitl [Hg]; · iexact Hg
    isplitl [Hi]; · iexact Hi
    iexact HB
  iintro HB
  iapply Hk
  isplitl [HB] <;> iassumption

/-- All eight started, one more gather's amount is waited for. -/
theorem wait_gather {α : Type} {Q : α → sProp 𝕄} (c : Fin 8) (w : ℕ) (hw : w < 8)
    {hsrc : (tW).view.WordExact} {hdst : (gW c).view.WordExact}
    {kont : PUnit → Prog (TpuEff nD τ sig (Elt F) Λ₀ (V d cc ii : Thread nD τ).2) α} {O : CellTallies nD τ sig (HIx 1)} {W : Waits sig (HIx 1)} :
    iprop(flightOf d cc ii t y hy fG 8 w ∗ owes (V d cc ii) O W ∗ Transfers.MayWaits (V d cc ii) (default : HIx 1) O)
      ⊢ iprop((iprop(flightOf d cc ii t y hy fG 8 (w + 1) ∗ owes (V d cc ii) O (insert (SemLoc.dma cc0_scratch4.sem, default) W))
            -∗ wp frame (wpE (defs₀ (F := F)) 𝒱₀ (V d cc ii) none) Set.univ (kont ⟨⟩) Q)
          -∗ wp frame (wpE (defs₀ (F := F)) 𝒱₀ (V d cc ii) none) Set.univ
              (SparseCore.waitIndirectGather cc0_scratch4.sem tW (gW c) hsrc hdst >>= kont) Q) := by
  iintro ⟨HB, HO, Hmw⟩ Hk
  iapply (Transfers.wp_waitBatchMulO countersEmb 𝒱₀ (V d cc ii) none (default : HIx 1) 128 (window_credit c) (j := 128 * 8) (u := w * (128 * 32))
    (by omega)) $$ [HB HO Hmw]
  · isplitl [HB]; · iexact HB
    isplitl [HO]; · iexact HO
    iapply (Transfers.MayWaits.elim (SemLoc.dma cc0_scratch4.sem)) $$ Hmw
  iintro ⟨HB, HO⟩
  iapply Hk
  isplitl [HB]
  · ihave HB := (Entails.of_eq (show _ = flightOf d cc ii t y hy fG 8 (w + 1) by unfold flightOf; rw [Nat.add_mul w 1, Nat.one_mul])) $$ HB
    iexact HB
  iexact HO

/-- `start_gather` with the window's offset and the count as the run has them: gather `k` starts at `o = 128 k`. -/
theorem start_at {α : Type} {Q : α → sProp 𝕄} (k k' o : ℕ) (hk : k < 8) (ho : o = 128 * k) (hk' : k' = k + 1)
    {inb inb' : ∀ a, (![o] : Fin 1 → ℕ) a + S128.size a ≤ S1024.size a}
    {hp : (V d cc ii : Thread nD τ).2.kind = .scVector} {hsrc : (tW).view.WordExact} {he : EltTy.bits .f32 = 32}
    {hsp : Space.hbm = .hbm ∨ Space.hbm = .shared} {hr : S102400000.StreamRows 0} {hn : S128.numel = S128.size (gathers_S102400000_S128).axis'}
    {kont : PUnit → Prog (TpuEff nD τ sig (Elt F) Λ₀ (V d cc ii : Thread nD τ).2) α} :
    startedOf d cc ii t y hy fG k
      ⊢ iprop((startedOf d cc ii t y hy fG k' -∗ wp frame (wpE (defs₀ (F := F)) 𝒱₀ (V d cc ii) none) Set.univ (kont ⟨⟩) Q)
          -∗ wp frame (wpE (defs₀ (F := F)) 𝒱₀ (V d cc ii) none) Set.univ
              (SparseCore.enqueueIndirectGather hp tW ((wG).slice (Rect.unit (s := S1024) ![o] S128.size inb) (fun _ => rfl)) gathers_S102400000_S128
                ((wI).slice (Rect.unit (s := S1024) ![o] S128.size inb') (fun _ => rfl)) hn cc0_scratch4.sem hsrc he hsp hr >>= kont) Q) := by
  subst ho hk'
  exact start_gather d cc ii t y hy fG ⟨k, hk⟩

/-- `wait_gather` likewise. -/
theorem wait_at {α : Type} {Q : α → sProp 𝕄} (o w w' : ℕ) (hw : w < 8) (ho : o = 128 * w) (hw' : w' = w + 1)
    {inb : ∀ a, (![o] : Fin 1 → ℕ) a + S128.size a ≤ S1024.size a}
    {hsrc : (tW).view.WordExact} {hdst : ((wG).slice (Rect.unit (s := S1024) ![o] S128.size inb) (fun _ => rfl)).view.WordExact}
    {kont : PUnit → Prog (TpuEff nD τ sig (Elt F) Λ₀ (V d cc ii : Thread nD τ).2) α} {O : CellTallies nD τ sig (HIx 1)} {W : Waits sig (HIx 1)} :
    iprop(flightOf d cc ii t y hy fG 8 w ∗ owes (V d cc ii) O W ∗ Transfers.MayWaits (V d cc ii) (default : HIx 1) O)
      ⊢ iprop((iprop(flightOf d cc ii t y hy fG 8 w' ∗ owes (V d cc ii) O (insert (SemLoc.dma cc0_scratch4.sem, default) W))
            -∗ wp frame (wpE (defs₀ (F := F)) 𝒱₀ (V d cc ii) none) Set.univ (kont ⟨⟩) Q)
          -∗ wp frame (wpE (defs₀ (F := F)) 𝒱₀ (V d cc ii) none) Set.univ
              (SparseCore.waitIndirectGather cc0_scratch4.sem tW ((wG).slice (Rect.unit (s := S1024) ![o] S128.size inb) (fun _ => rfl)) hsrc hdst >>= kont) Q) := by
  subst ho hw'
  exact wait_gather d cc ii t y hy fG ⟨w, hw⟩ w hw

/-- Before the first: the table, the gathered buffer, the list and the semaphore at zero make the batch, nothing started. -/
theorem start_none :
    iprop(((tV).view.loc (V d cc ii) ↦{fullShare} t) ∗ ((wG).view.loc (V d cc ii) ↦{fullShare} fG) ∗ ((wI).view.loc (V d cc ii) ↦{fullShare} posOf y)
        ∗ semVal ((V d cc ii, .dma cc0_scratch4.sem) : GSem nD τ sig) 0)
      ⊢ (|={Set.univ}=> startedOf (F := F) d cc ii t y hy fG 0 : sProp 𝕄) := by
  iintro ⟨Ht, HG, HI, Hsem⟩
  imod (Transfers.batch_alloc' countersEmb (c := V d cc ii) (sm := .dma cc0_scratch4.sem) (default : HIx 1) 32 (memberOf (F := F) d cc ii t y hy fG)) $$ Hsem with HB
  imodintro
  unfold startedOf
  isplitl [HB]; · iexact HB
  rw [Transfers.pending_zero, ← given_split]
  isplitl [Ht]; · iexact Ht
  isplitl [HG] <;> iassumption

/-- After the eighth: nothing is left to give. -/
theorem started_all : startedOf (F := F) d cc ii t y hy fG 8 ⊢ flightOf d cc ii t y hy fG 8 0 := by
  unfold startedOf
  iintro ⟨HB, -⟩
  iexact HB

/-- After all the waits: the semaphore at zero, the table and the list as they were, the gathered buffer at the words. -/
theorem waited_all :
    flightOf (F := F) d cc ii t y hy fG 8 8
      ⊢ (|={Set.univ}=> iprop((((tV).view.loc (V d cc ii) ↦{fullShare} t) ∗ ((wG).view.loc (V d cc ii) ↦{fullShare} (gotOf t y : S1024.Idx → Elt F .f32))
          ∗ ((wI).view.loc (V d cc ii) ↦{fullShare} posOf y)) ∗ semVal ((V d cc ii, .dma cc0_scratch4.sem) : GSem nD τ sig) 0) : sProp 𝕄) := by
  iintro HB
  imod (Transfers.batch_collect' countersEmb (V d cc ii) (sm := .dma cc0_scratch4.sem) (ι := (default : HIx 1)) (N := 32) (by decide) (D := memberOf (F := F) d cc ii t y hy fG)) $$ HB with ⟨Hall, Hc⟩
  imodintro
  isplitl [Hall]
  · iapply (members_join d cc ii t y hy fG) $$ Hall
  iexact Hc

end Run

end Cert.Proof.Sum

end
-- ==== Proof.Words.lean ====
/-
  WHAT THE TILE STORES AND LOADS. Its scratch buffers and semaphores among the subcore's own; the list of positions that
  sixty-four stores of sixteen words leave; the groups of sixteen words that the sums load.
-/
module

public import proofs.«01_k».proof.Proof.Streams

@[expose] public section

noncomputable section

namespace Cert.Proof.Sum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "tV" => (Memref.whole Cert.KernelIdeal.main_v0_scv : Memref Cert.KernelIdeal.sig Kind.scVector Space.hbm Cert.KernelIdeal.S102400000 EltTy.f32)
local notation "yV" => (Memref.whole Cert.KernelIdeal.main_arg1_scv : Memref Cert.KernelIdeal.sig Kind.scVector Space.hbm Cert.KernelIdeal.S1024 EltTy.i32)
local notation "rV" => (Memref.whole Cert.KernelIdeal.main_v1_scv : Memref Cert.KernelIdeal.sig Kind.scVector Space.hbm Cert.KernelIdeal.S16 EltTy.f32)
local notation "wY" => (Memref.whole Cert.KernelIdeal.cc0_scratch0 : Memref Cert.KernelIdeal.sig Kind.scVector Space.vmem Cert.KernelIdeal.S1024 EltTy.i32)
local notation "wI" => (Memref.whole Cert.KernelIdeal.cc0_scratch1 : Memref Cert.KernelIdeal.sig Kind.scVector Space.vmem Cert.KernelIdeal.S1024 EltTy.i32)
local notation "wG" => (Memref.whole Cert.KernelIdeal.cc0_scratch2 : Memref Cert.KernelIdeal.sig Kind.scVector Space.vmem Cert.KernelIdeal.S1024 EltTy.f32)
local notation "wR" => (Memref.whole Cert.KernelIdeal.cc0_scratch3 : Memref Cert.KernelIdeal.sig Kind.scVector Space.vmem Cert.KernelIdeal.S16 EltTy.f32)

section Tile

variable (d : Dev nD) (L : grid0.Coords)

abbrev cV (L : grid0.Coords) : Fin τ.nSC := (L 0).castLE hcore0
abbrev jV (L : grid0.Coords) : Fin τ.nSub := (L 1).castLE hsub0

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scratch4.sem)

omit [FloatOps F] in
/-- The kernel's three semaphores are among the subcore's own, each at zero. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch4.sem : SemLoc sig).isScoped .scVector = true; decide⟩⟩⟩)]

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have hne : ∀ {b b' : Ref sig .scVector}, b ≠ b' → (Proc.scVector (cV L) (jV L)).devRef b ≠ (Proc.scVector (cV L) (jV L)).devRef b' :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide),
      SparseCore.Cfg.mem_ownRefs_of_owner (p := Proc.scVector (cV L) (jV L)) (b := (Proc.scVector (cV L) (jV L)).devRef cc0_scratch3) rfl⟩⟩⟩)]

/-! ## What the stores leave, and the loads read -/

/-- The pieces `L` written so far agree with `G`, and they cover the first `n` places. -/
def Cov (G : S1024.Idx → BitVec 32) (n : ℕ) (L : List (View.Piece (Elt F) S1024 .i32)) : Prop :=
  (∀ p ∈ L, ∀ x, p.2 x = G (p.1.emb x)) ∧ ∀ y : S1024.Idx, (y 0).val < n → ∃ p ∈ L, y ∈ p.1.set

omit [FloatOps F] in
theorem Cov_nil (G : S1024.Idx → BitVec 32) : Cov (F := F) G 0 [] := ⟨fun _ h => (List.not_mem_nil h).elim, fun _ h => (Nat.not_lt_zero _ h).elim⟩

omit [FloatOps F] in
/-- One more store, of the sixteen places after those covered. -/
theorem Cov_cons {G : S1024.Idx → BitVec 32} {n : ℕ} {L : List (View.Piece (Elt F) S1024 .i32)} (inb : ∀ a, (![n] : Fin 1 → ℕ) a + S16.size a ≤ S1024.size a)
    (w : S16.Idx → BitVec 32) (h : Cov G n L) (hw : ∀ x : S16.Idx, w x = G ((Rect.unit (s := S1024) ![n] S16.size inb).emb x)) :
    Cov G (n + 16) (⟨Rect.unit (s := S1024) ![n] S16.size inb, w⟩ :: L) := by
  refine ⟨fun p hp => ?_, fun y hy => ?_⟩
  · rcases List.mem_cons.mp hp with rfl | hp
    · exact hw
    · exact h.1 p hp
  · by_cases hn : (y 0).val < n
    · obtain ⟨p, hp, hm⟩ := h.2 y hn
      exact ⟨p, List.mem_cons_of_mem _ hp, hm⟩
    · refine ⟨⟨Rect.unit (s := S1024) ![n] S16.size inb, w⟩, List.mem_cons_self, (Rect.mem_set_unit (inb := inb)).mpr fun a => ?_⟩
      match a with
      | 0 => exact ⟨Nat.le_of_not_lt hn, hy⟩

omit [FloatOps F] in
/-- Everything covered, the list buffer is at `G`. -/
theorem Cov_pts {G : S1024.Idx → BitVec 32} {Ps : List (View.Piece (Elt F) S1024 .i32)} {f : S1024.Idx → Elt F .i32} (h : Cov G 1024 Ps) :
    ((wI).view.loc (V d (cV L) (jV L)) ↦{fullShare} (wI).view.writes (Elt F) f Ps : sProp 𝕄)
      = ((wI).view.loc (V d (cV L) (jV L)) ↦{fullShare} G) := by
  refine congrArg _ (funext fun y => ?_)
  exact View.read_writes_apply_of_pieces (wI).view f G Ps h.1 y (h.2 y (y 0).isLt)

omit [FloatOps F] in
/-- The sixteen positions the tile computes for rows `n … n + 15` are those rows' words' places. -/
theorem pay_ok (n : ℕ) (inb : ∀ a, (![n] : Fin 1 → ℕ) a + S16.size a ≤ S1024.size a) (y f : S1024.Idx → BitVec 32) (x : S16.Idx) :
    addi (muli (addi (broadcast S16 (BitVec.ofNat 32 n)) (iota .scVector S16 32 [0] iota_S16_d0_w32_scVector)) (broadcast S16 100000#32))
      ((wY).view.readAt (Elt F) (Rect.unit (s := S1024) ![n] S16.size inb).toLoadRect (View.write (Elt F) (wY).view f y Finset.univ)) x
      = posOf y ((Rect.unit (s := S1024) ![n] S16.size inb).emb x) := by
  rw [show View.write (Elt F) (wY).view f y Finset.univ = y from View.write_whole_univ ..]
  show (BitVec.ofNat 32 n + BitVec.ofNat 32 (0 * 16 + (x 0).val)) * 100000#32 + y _ = BitVec.ofNat 32 (n + 1 * (x 0).val) * 100000#32 + y _
  rw [Nat.zero_mul, Nat.zero_add, Nat.one_mul, BitVec.ofNat_add]
  rfl

omit [FloatOps F] in
/-- A load of sixteen words of the gathered buffer is a group's sixteen rows. -/
theorem load_group (g : S1024.Idx → Elt F .f32) (o n : ℕ) (inb : ∀ a, (![o] : Fin 1 → ℕ) a + S16.size a ≤ S1024.size a) (ho : o = 16 * n) :
    (wG).view.readAt (Elt F) (Rect.unit (s := S1024) ![o] S16.size inb).toLoadRect g = fun l => g (rowAt n l) := by
  subst ho
  funext l
  show g _ = g _
  congr 1
  funext a
  match a with
  | 0 =>
    refine Fin.ext ?_
    show 16 * n + 1 * (l 0).val = (16 * n + (l 0).val) % 1024
    have h := inb 0
    have hl : (l 0).val < 16 := (l 0).isLt
    have h' : 16 * n + 16 ≤ 1024 := h
    rw [Nat.mod_eq_of_lt (by omega), Nat.one_mul]

/-- One more group added. -/
theorem acc_step {g : S1024.Idx → Elt F .f32} {n : ℕ} {a w : FVec F S16 .f32} (ha : a = accOf g n) (hw : w = fun l => g (rowAt n l)) :
    addf a w = accOf g (n + 1) := by rw [ha, hw]; rfl

end Tile

end Cert.Proof.Sum

end
-- ==== Proof.Parts.lean ====
/-
  THE GATHERS' AND THE SUMS' PARTS of the tile's program, each run by itself: gathers 1 to 7 started and the first wait;
  the other waits and the first five groups added; the groups after, and the sums stored.
-/
module

public import proofs.«01_k».proof.Proof.Words

@[expose] public section

noncomputable section

namespace Cert.Proof.Sum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "tV" => (Memref.whole Cert.KernelIdeal.main_v0_scv : Memref Cert.KernelIdeal.sig Kind.scVector Space.hbm Cert.KernelIdeal.S102400000 EltTy.f32)
local notation "yV" => (Memref.whole Cert.KernelIdeal.main_arg1_scv : Memref Cert.KernelIdeal.sig Kind.scVector Space.hbm Cert.KernelIdeal.S1024 EltTy.i32)
local notation "rV" => (Memref.whole Cert.KernelIdeal.main_v1_scv : Memref Cert.KernelIdeal.sig Kind.scVector Space.hbm Cert.KernelIdeal.S16 EltTy.f32)
local notation "wY" => (Memref.whole Cert.KernelIdeal.cc0_scratch0 : Memref Cert.KernelIdeal.sig Kind.scVector Space.vmem Cert.KernelIdeal.S1024 EltTy.i32)
local notation "wI" => (Memref.whole Cert.KernelIdeal.cc0_scratch1 : Memref Cert.KernelIdeal.sig Kind.scVector Space.vmem Cert.KernelIdeal.S1024 EltTy.i32)
local notation "wG" => (Memref.whole Cert.KernelIdeal.cc0_scratch2 : Memref Cert.KernelIdeal.sig Kind.scVector Space.vmem Cert.KernelIdeal.S1024 EltTy.f32)
local notation "wR" => (Memref.whole Cert.KernelIdeal.cc0_scratch3 : Memref Cert.KernelIdeal.sig Kind.scVector Space.vmem Cert.KernelIdeal.S16 EltTy.f32)

section Tile

variable (d : Dev nD) (L : grid0.Coords)

omit [FloatOps F] in
/-- The whole buffer's one box sends a place to itself. -/
theorem box_whole (inb : ∀ a, (![0] : Fin 1 → ℕ) a + S16.size a ≤ S16.size a) (x : S16.Idx) : (Rect.unit (s := S16) ![0] S16.size inb).emb x = x := by
  funext a
  match a with
  | 0 => exact Fin.ext (show 0 + 1 * (x 0).val = (x 0).val by omega)

omit [FloatOps F] in
/-- Sixteen sums stored over the whole of their buffer: the buffer holds them. -/
theorem writes_sums (inb : ∀ a, (![0] : Fin 1 → ℕ) a + S16.size a ≤ S16.size a) (f v : S16.Idx → Elt F .f32) :
    (wR).view.writes (Elt F) f [⟨Rect.unit (s := S16) ![0] S16.size inb, v⟩] = v := by
  funext y
  refine View.read_writes_apply_of_pieces (wR).view f v [⟨Rect.unit (s := S16) ![0] S16.size inb, v⟩] ?_ y ?_
  · intro p hp
    obtain rfl := List.mem_singleton.mp hp
    intro x
    exact congrArg v (box_whole inb x).symm
  · refine ⟨⟨Rect.unit (s := S16) ![0] S16.size inb, v⟩, List.mem_singleton_self _, (Rect.mem_set_unit (inb := inb)).mpr fun a => ?_⟩
    match a with
    | 0 => exact ⟨Nat.zero_le _, Nat.lt_of_lt_of_le (y 0).isLt (Nat.le_add_left _ _)⟩

omit [FloatOps F] in
/-- The same, of the buffer's permission. -/
theorem sums_stored (inb : ∀ a, (![0] : Fin 1 → ℕ) a + S16.size a ≤ S16.size a) (f v w : S16.Idx → Elt F .f32) (hv : v = w) :
    ((wR).view.loc (V d (cV L) (jV L)) ↦{fullShare} (wR).view.writes (Elt F) f [⟨Rect.unit (s := S16) ![0] S16.size inb, v⟩] : sProp 𝕄)
      = ((wR).view.loc (V d (cV L) (jV L)) ↦{fullShare} w) := by
  subst hv
  exact congrArg _ (writes_sums inb f v)

/-- One folding step: the sums rotated by `k` are loaded, added to the sums, and the result stored over them. -/
theorem fold_at {β : Type} (k : BitVec 32) (ix : IVec S16 32) (hix : ix = rotIx k) {P : Prop} {dP : Decidable P} (hP : P)
    (hin : PLift P → ∀ a x, ((![ix] : Fin 1 → IVec S16 32) a x).toNat < S16.size a) {hl : (wR).view.Loads} (v : FVec F S16 .f32)
    (pay : FVec F S16 .f32 → FVec F S16 .f32) (hpay : ∀ w, pay w = addf v w)
    (kont : FVec F S16 .f32 → Prog (TpuEff nD τ sig (Elt F) Λ₀ (V d (cV L) (jV L)).2) β) (Q : β → sProp 𝕄) :
    ((wR).view.loc (V d (cV L) (jV L)) ↦{fullShare} v : sProp 𝕄)
      ⊢ iprop((∀ w, ⌜addf v w = foldStep k v⌝ -∗ ((wR).view.loc (V d (cV L) (jV L)) ↦{fullShare} (foldStep k v : S16.Idx → Elt F .f32))
            -∗ wp frame (wpE (defs₀ (F := F)) 𝒱₀ (V d (cV L) (jV L)) none) Set.univ (kont w) Q)
        -∗ wp frame (wpE (defs₀ (F := F)) 𝒱₀ (V d (cV L) (jV L)) none) Set.univ
          (Prog.lift (TpuEff.assume P dP) >>= fun h => SparseCore.vectorLoadIdx wR ![ix] (hin h) hl >>= fun w =>
            Prog.lift (.load wR (Rect.unit (s := S16) ![0] S16.size inb_S16_S16_0).toLoadRect (View.loadsAt_vmem h_S16)) >>= fun _ =>
            Prog.lift (.store wR (Rect.unit (s := S16) ![0] S16.size inb_S16_S16_0) (pay w) Finset.univ (View.stores_vmem_bits_univ h_S16 rfl) (.inl rfl)) >>= fun _ =>
            kont w) Q) := by
  subst hix
  iintro HR Hk
  rw [show ∀ K : PLift P → Prog (TpuEff nD τ sig (Elt F) Λ₀ (V d (cV L) (jV L)).2) β, (Prog.lift (TpuEff.assume P dP) >>= K) = .op (.assume P dP) K from fun _ => rfl,
    wp_assume_of _ _ _ _ hP]
  ihave HR2 := (Entails.of_eq (show ((wR).view.loc (V d (cV L) (jV L)) ↦{fullShare} v : sProp 𝕄)
    = ((wR).access (.whole S16)).loc (V d (cV L) (jV L)) ↦[Finset.univ]{fullShare} v from rfl)) $$ HR
  iapply (SparseCore.wp_vectorLoadIdx 𝒱₀ (V d (cV L) (jV L)) none Set.univ (base := (wR)) (S := Finset.univ) (q := fullShare) (Finset.subset_univ _)) $$ HR2
  iintro HR2
  ihave HR := (Entails.of_eq (show (((wR).access (.whole S16)).loc (V d (cV L) (jV L)) ↦[Finset.univ]{fullShare} v : sProp 𝕄)
    = ((wR).view.loc (V d (cV L) (jV L)) ↦{fullShare} v) from rfl)) $$ HR2
  have hread : ((wR).access (.whole S16)).read (Elt F) v = v := by
    funext x
    refine congrArg v (funext fun a => ?_)
    match a with
    | 0 => exact Fin.ext (show 0 + 1 * (x 0).val = (x 0).val by omega)
  generalize hw : loadIdx (F := F) (e := .f32) (View.read (Elt F) ((wR).access (Rect.whole cc0_scratch3.ty.shape)) v) ![rotIx k] _ = w
  have hw' : addf v w = foldStep k v := by
    rw [← hw]
    exact congrArg (fun u => addf v (loadIdx (F := F) (e := .f32) u ![rotIx k] (rotIx_lt k))) hread
  sl_exec
  ispecialize Hk $$ %w
  ihave Hk := Hk $$ [] [HR]
  · ipureintro; exact hw'
  · ihave HR2 := (Entails.of_eq (sums_stored d L inb_S16_S16_0 v _ _ ((hpay w).trans hw'))) $$ HR
    iexact HR2
  iexact Hk

/-- A program run to a post, then the rest from that post: how the parts are put in sequence. -/
theorem wp_part {α β : Type} {thr : Thread nD τ} {p : Prog (TpuEff nD τ sig (Elt F) Λ₀ thr.2) α} {k : α → Prog (TpuEff nD τ sig (Elt F) Λ₀ thr.2) β}
    {H : sProp 𝕄} {R : α → sProp 𝕄} {Q : β → sProp 𝕄} (h : H ⊢ wp frame (wpE (defs₀ (F := F)) 𝒱₀ thr none) Set.univ p R) :
    H ⊢ iprop((∀ a, R a -∗ wp frame (wpE (defs₀ (F := F)) 𝒱₀ thr none) Set.univ (k a) Q)
        -∗ wp frame (wpE (defs₀ (F := F)) 𝒱₀ thr none) Set.univ (p >>= k) Q) := by
  rw [wp_bind]
  exact h.trans (wp_wand _ _ _)

variable (t : S102400000.Idx → Elt F .f32) (y : S1024.Idx → BitVec 32) (hy : ∀ x, (y x).toNat < 100000) (fG : S1024.Idx → Elt F .f32)

set_option maxHeartbeats 2000000 in
/-- Gathers 1 to 7 started, one gather's amount waited for. -/
theorem part14_run (O : CellTallies nD τ sig (HIx 1)) (W : Waits sig (HIx 1)) :
    iprop(startedOf d (cV L) (jV L) t y hy fG 1 ∗ owes (V d (cV L) (jV L)) O W ∗ Transfers.MayWaits (V d (cV L) (jV L)) (default : HIx 1) O)
      ⊢ wp frame (wpE (defs₀ (F := F)) 𝒱₀ (V d (cV L) (jV L)) none) Set.univ
          (k0_part14 L tV (Memref.isWhole_whole _) yV (Memref.isWhole_whole _) rV (Memref.isWhole_whole _)
            wY (Memref.isWhole_whole _) wI (Memref.isWhole_whole _) wG (Memref.isWhole_whole _) wR (Memref.isWhole_whole _)
            cc0_scratch4 cc0_scoped0 cc0_scoped1)
          fun _ => iprop(flightOf d (cV L) (jV L) t y hy fG 8 1 ∗ ∃ W', ⌜∀ p ∈ W', p ∈ W ∨ p.2 = none⌝ ∗ owes (V d (cV L) (jV L)) O W') := by
  rw [k0_part14_eq_skeleton]; unfold k0_part14_skel
  iintro ⟨HS, HO, Hmw⟩
  iapply (start_at d (cV L) (jV L) t y hy fG 1 2 128 (by decide) rfl rfl) $$ HS
  iintro HS
  iapply (start_at d (cV L) (jV L) t y hy fG 2 3 256 (by decide) rfl rfl) $$ HS
  iintro HS
  iapply (start_at d (cV L) (jV L) t y hy fG 3 4 384 (by decide) rfl rfl) $$ HS
  iintro HS
  iapply (start_at d (cV L) (jV L) t y hy fG 4 5 512 (by decide) rfl rfl) $$ HS
  iintro HS
  iapply (start_at d (cV L) (jV L) t y hy fG 5 6 640 (by decide) rfl rfl) $$ HS
  iintro HS
  iapply (start_at d (cV L) (jV L) t y hy fG 6 7 768 (by decide) rfl rfl) $$ HS
  iintro HS
  iapply (start_at d (cV L) (jV L) t y hy fG 7 8 896 (by decide) rfl rfl) $$ HS
  iintro HS
  ihave HB := (started_all d (cV L) (jV L) t y hy fG) $$ HS
  iapply (wait_at d (cV L) (jV L) t y hy fG 0 0 1 (by decide) rfl rfl) $$ [HB HO Hmw]
  · isplitl [HB]; · iexact HB
    isplitl [HO] <;> iassumption
  iintro ⟨HB, HO⟩
  rw [show (Pure.pure PUnit.unit : Prog (TpuEff nD τ sig (Elt F) Λ₀ (V d (cV L) (jV L)).2) PUnit) = .ret PUnit.unit from rfl, wp_ret]; imodintro
  isplitl [HB]; · iexact HB
  iexists _
  isplitr [HO]; rotate_left; · iexact HO
  ipureintro; intro p hp
  rcases Finset.mem_insert.mp hp with hp | hp
  · exact .inr (by rw [hp]; rfl)
  exact .inl hp

/-- The other seven amounts waited for: every position's entry is there; and the first five groups of sixteen added. -/
theorem part15_run (O : CellTallies nD τ sig (HIx 1)) (W : Waits sig (HIx 1)) :
    iprop(flightOf d (cV L) (jV L) t y hy fG 8 1 ∗ owes (V d (cV L) (jV L)) O W ∗ □ Transfers.MayWaits (V d (cV L) (jV L)) (default : HIx 1) O)
      ⊢ wp frame (wpE (defs₀ (F := F)) 𝒱₀ (V d (cV L) (jV L)) none) Set.univ
          (k0_part15 L tV (Memref.isWhole_whole _) yV (Memref.isWhole_whole _) rV (Memref.isWhole_whole _)
            wY (Memref.isWhole_whole _) wI (Memref.isWhole_whole _) wG (Memref.isWhole_whole _) wR (Memref.isWhole_whole _)
            cc0_scratch4 cc0_scoped0 cc0_scoped1)
          fun v => iprop(⌜v = accOf (gotOf t y) 5⌝
            ∗ (((tV).view.loc (V d (cV L) (jV L)) ↦{fullShare} t) ∗ ((wG).view.loc (V d (cV L) (jV L)) ↦{fullShare} (gotOf t y : S1024.Idx → Elt F .f32))
              ∗ ((wI).view.loc (V d (cV L) (jV L)) ↦{fullShare} posOf y))
            ∗ semVal (cCcell d (cV L) (jV L)) 0
            ∗ ∃ W', ⌜∀ p ∈ W', p ∈ W ∨ p.2 = none⌝ ∗ owes (V d (cV L) (jV L)) O W') := by
  rw [k0_part15_eq_skeleton]; unfold k0_part15_skel
  iintro ⟨HB, HO, #Hmw⟩
  iapply (wait_at d (cV L) (jV L) t y hy fG 128 1 2 (by decide) rfl rfl) $$ [HB HO]
  · isplitl [HB]; · iexact HB
    isplitl [HO]; · iexact HO
    iexact Hmw
  iintro ⟨HB, HO⟩
  iapply (wait_at d (cV L) (jV L) t y hy fG 256 2 3 (by decide) rfl rfl) $$ [HB HO]
  · isplitl [HB]; · iexact HB
    isplitl [HO]; · iexact HO
    iexact Hmw
  iintro ⟨HB, HO⟩
  iapply (wait_at d (cV L) (jV L) t y hy fG 384 3 4 (by decide) rfl rfl) $$ [HB HO]
  · isplitl [HB]; · iexact HB
    isplitl [HO]; · iexact HO
    iexact Hmw
  iintro ⟨HB, HO⟩
  iapply (wait_at d (cV L) (jV L) t y hy fG 512 4 5 (by decide) rfl rfl) $$ [HB HO]
  · isplitl [HB]; · iexact HB
    isplitl [HO]; · iexact HO
    iexact Hmw
  iintro ⟨HB, HO⟩
  iapply (wait_at d (cV L) (jV L) t y hy fG 640 5 6 (by decide) rfl rfl) $$ [HB HO]
  · isplitl [HB]; · iexact HB
    isplitl [HO]; · iexact HO
    iexact Hmw
  iintro ⟨HB, HO⟩
  iapply (wait_at d (cV L) (jV L) t y hy fG 768 6 7 (by decide) rfl rfl) $$ [HB HO]
  · isplitl [HB]; · iexact HB
    isplitl [HO]; · iexact HO
    iexact Hmw
  iintro ⟨HB, HO⟩
  iapply (wait_at d (cV L) (jV L) t y hy fG 896 7 8 (by decide) rfl rfl) $$ [HB HO]
  · isplitl [HB]; · iexact HB
    isplitl [HO]; · iexact HO
    iexact Hmw
  iintro ⟨HB, HO⟩
  imod (waited_all d (cV L) (jV L) t y hy fG) $$ HB with ⟨⟨Ht, HG, HI⟩, Hc⟩
  sl_exec
  rw [wp_ret]; imodintro
  isplitr [Ht HG HI Hc HO]
  · ipureintro
    sl_unfold_run_names
    unfold k0_pay66
    repeat refine acc_step ?_ (load_group _ _ _ _ rfl)
    rfl
  isplitl [Ht HG HI]
  · isplitl [Ht]; · iexact Ht
    isplitl [HG] <;> iassumption
  isplitl [Hc]; · iexact Hc
  iexists _
  isplitr [HO]; rotate_left; · iexact HO
  ipureintro; intro p hp
  simp only [Finset.mem_insert] at hp
  rcases hp with hp | hp | hp | hp | hp | hp | hp | hp
  all_goals first | exact .inl hp | exact .inr (by rw [hp]; rfl)

/-- Groups 5 to 24 added. -/
theorem part16_run (g : S1024.Idx → Elt F .f32) (a : FVec F S16 .f32) (ha : a = accOf g 5) :
    ((wG).view.loc (V d (cV L) (jV L)) ↦{fullShare} g : sProp 𝕄)
      ⊢ wp frame (wpE (defs₀ (F := F)) 𝒱₀ (V d (cV L) (jV L)) none) Set.univ
          (k0_part16 L tV (Memref.isWhole_whole _) yV (Memref.isWhole_whole _) rV (Memref.isWhole_whole _)
            wY (Memref.isWhole_whole _) wI (Memref.isWhole_whole _) wG (Memref.isWhole_whole _) wR (Memref.isWhole_whole _)
            cc0_scratch4 cc0_scoped0 cc0_scoped1 a)
          fun v => iprop(⌜v = accOf g 25⌝ ∗ ((wG).view.loc (V d (cV L) (jV L)) ↦{fullShare} g)) := by
  rw [k0_part16_eq_skeleton]; unfold k0_part16_skel
  iintro HG
  sl_exec
  rw [wp_ret]; imodintro
  isplitr [HG]
  · ipureintro
    sl_unfold_run_names
    unfold k0_pay68
    repeat refine acc_step (n := _) ?_ (load_group _ _ _ _ rfl)
    exact ha
  iexact HG

/-- Groups 25 to 44 added. -/
theorem part17_run (g : S1024.Idx → Elt F .f32) (a : FVec F S16 .f32) (ha : a = accOf g 25) :
    ((wG).view.loc (V d (cV L) (jV L)) ↦{fullShare} g : sProp 𝕄)
      ⊢ wp frame (wpE (defs₀ (F := F)) 𝒱₀ (V d (cV L) (jV L)) none) Set.univ
          (k0_part17 L tV (Memref.isWhole_whole _) yV (Memref.isWhole_whole _) rV (Memref.isWhole_whole _)
            wY (Memref.isWhole_whole _) wI (Memref.isWhole_whole _) wG (Memref.isWhole_whole _) wR (Memref.isWhole_whole _)
            cc0_scratch4 cc0_scoped0 cc0_scoped1 a)
          fun v => iprop(⌜v = accOf g 45⌝ ∗ ((wG).view.loc (V d (cV L) (jV L)) ↦{fullShare} g)) := by
  rw [k0_part17_eq_skeleton]; unfold k0_part17_skel
  iintro HG
  sl_exec
  rw [wp_ret]; imodintro
  isplitr [HG]
  · ipureintro
    sl_unfold_run_names
    unfold k0_pay70
    repeat refine acc_step (n := _) ?_ (load_group _ _ _ _ rfl)
    exact ha
  iexact HG

/-- The last groups added, and the sums stored. -/
theorem part18_run (g : S1024.Idx → Elt F .f32) (fR : S16.Idx → Elt F .f32) (a : FVec F S16 .f32) (ha : a = accOf g 45) :
    iprop(((wG).view.loc (V d (cV L) (jV L)) ↦{fullShare} g) ∗ ((wR).view.loc (V d (cV L) (jV L)) ↦{fullShare} fR) : sProp 𝕄)
      ⊢ wp frame (wpE (defs₀ (F := F)) 𝒱₀ (V d (cV L) (jV L)) none) Set.univ
          (k0_part18 L tV (Memref.isWhole_whole _) yV (Memref.isWhole_whole _) rV (Memref.isWhole_whole _)
            wY (Memref.isWhole_whole _) wI (Memref.isWhole_whole _) wG (Memref.isWhole_whole _) wR (Memref.isWhole_whole _)
            cc0_scratch4 cc0_scoped0 cc0_scoped1 a)
          fun v => iprop(⌜v = accOf g 64⌝ ∗ ((wG).view.loc (V d (cV L) (jV L)) ↦{fullShare} g)
            ∗ ((wR).view.loc (V d (cV L) (jV L)) ↦{fullShare} (accOf g 64 : S16.Idx → Elt F .f32))) := by
  rw [k0_part18_eq_skeleton]; unfold k0_part18_skel
  iintro ⟨HG, HR⟩
  sl_exec
  rw [wp_ret]; imodintro
  generalize hw : k0_pay72 (F := F) _ _ _ _ _ _ _ _ _ _ _ = w
  have hv : w = accOf g 64 := by
    rw [← hw]
    sl_unfold_run_names
    unfold k0_pay72
    repeat refine acc_step (n := _) ?_ (load_group _ _ _ _ rfl)
    exact ha
  isplitr [HG HR]
  · ipureintro; exact hv
  isplitl [HG]; · iexact HG
  ihave HR2 := (Entails.of_eq (sums_stored d L inb_S16_S16_0 fR _ _ hv)) $$ HR
  iexact HR2

end Tile

end Cert.Proof.Sum

end
-- ==== Proof.Tile.lean ====
/-
  THE TILE'S RUN. Tile 0 fetches the indices, computes the words' positions in the flat table group by group, starts
  eight gathers on one semaphore, waits for all eight, adds the words up in sixteen running sums, folds those across
  lanes and writes the result out.
-/
module

public import proofs.«01_k».proof.Proof.Parts

@[expose] public section

noncomputable section

namespace Cert.Proof.Sum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "tV" => (Memref.whole Cert.KernelIdeal.main_v0_scv : Memref Cert.KernelIdeal.sig Kind.scVector Space.hbm Cert.KernelIdeal.S102400000 EltTy.f32)
local notation "yV" => (Memref.whole Cert.KernelIdeal.main_arg1_scv : Memref Cert.KernelIdeal.sig Kind.scVector Space.hbm Cert.KernelIdeal.S1024 EltTy.i32)
local notation "rV" => (Memref.whole Cert.KernelIdeal.main_v1_scv : Memref Cert.KernelIdeal.sig Kind.scVector Space.hbm Cert.KernelIdeal.S16 EltTy.f32)
local notation "wY" => (Memref.whole Cert.KernelIdeal.cc0_scratch0 : Memref Cert.KernelIdeal.sig Kind.scVector Space.vmem Cert.KernelIdeal.S1024 EltTy.i32)
local notation "wI" => (Memref.whole Cert.KernelIdeal.cc0_scratch1 : Memref Cert.KernelIdeal.sig Kind.scVector Space.vmem Cert.KernelIdeal.S1024 EltTy.i32)
local notation "wG" => (Memref.whole Cert.KernelIdeal.cc0_scratch2 : Memref Cert.KernelIdeal.sig Kind.scVector Space.vmem Cert.KernelIdeal.S1024 EltTy.f32)
local notation "wR" => (Memref.whole Cert.KernelIdeal.cc0_scratch3 : Memref Cert.KernelIdeal.sig Kind.scVector Space.vmem Cert.KernelIdeal.S16 EltTy.f32)

section Tile

variable (d : Dev nD) (L : grid0.Coords)

set_option maxHeartbeats 1000000 in
theorem tile_body (h1 : k0_cond1 L = 1#1) (hF : (K (F := F)).Facts) (hpre : PreOK m) (O : CellTallies nD τ sig (HIx 1)) (W : Waits sig (HIx 1)) (hO : ∀ g, O g none = 0) :
    iprop(levAts (K (F := F)).L (K (F := F)).lev ∗ emp ∗ opIn m d
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_kernel_body L tV (Memref.isWhole_whole _) yV (Memref.isWhole_whole _) rV (Memref.isWhole_whole _)
            wY (Memref.isWhole_whole _) wI (Memref.isWhole_whole _) wG (Memref.isWhole_whole _) wR (Memref.isWhole_whole _)
            cc0_scratch4 cc0_scoped0 cc0_scoped1)
          fun _ => iprop(opOut m d
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_kernel_body_eq_skeleton]; unfold cc0__sc_kernel_body_skel
  rw [dif_pos h1]
  simp only [k0_part19_eq_skeleton]; unfold k0_part19_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton]
  unfold k0_part1_skel k0_part2_skel k0_part3_skel k0_part4_skel k0_part5_skel k0_part6_skel k0_part7_skel k0_part8_skel
    k0_part9_skel k0_part10_skel k0_part11_skel k0_part12_skel k0_part13_skel
  rw [(K (F := F)).scopedBufs_V hF d (cV L) (jV L), SparseCore.Cfg.scopedSems0_V (Val := Elt F) d (cV L) (jV L), ownSems0_V, ownBufs_V]
  iintro ⟨#Hlv, -, ⟨Ht, Hy, Hr⟩, ⟨⟨%fY, HY⟩, ⟨%fI, HI⟩, ⟨%fG, HG⟩, ⟨%fR, HR⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (show (tPts m d : sProp 𝕄) = ((tV).view.loc (V d (cV L) (jV L)) ↦{fullShare} tabV m d) from rfl)) $$ Ht
  ihave Hy' := (Entails.of_eq (show (yPts m d : sProp 𝕄) = ((yV).view.loc (V d (cV L) (jV L)) ↦{fullShare} m (yLoc d)) from rfl)) $$ Hy
  ihave Hr' := (Entails.of_eq (show (rPts d (m (rLoc d)) : sProp 𝕄) = ((rV).view.loc (V d (cV L) (jV L)) ↦{fullShare} m (rLoc d)) from rfl)) $$ Hr
  ihave HY' := (Entails.of_eq (show ((V d (cV L) (jV L)).loc cc0_scratch0 ↦{fullShare} fY : sProp 𝕄) = ((wY).view.loc (V d (cV L) (jV L)) ↦{fullShare} fY) from rfl)) $$ HY
  ihave HI' := (Entails.of_eq (show ((V d (cV L) (jV L)).loc cc0_scratch1 ↦{fullShare} fI : sProp 𝕄) = ((wI).view.loc (V d (cV L) (jV L)) ↦{fullShare} fI) from rfl)) $$ HI
  ihave HG' := (Entails.of_eq (show ((V d (cV L) (jV L)).loc cc0_scratch2 ↦{fullShare} fG : sProp 𝕄) = ((wG).view.loc (V d (cV L) (jV L)) ↦{fullShare} fG) from rfl)) $$ HG
  ihave HR' := (Entails.of_eq (show ((V d (cV L) (jV L)).loc cc0_scratch3 ↦{fullShare} fR : sProp 𝕄) = ((wR).view.loc (V d (cV L) (jV L)) ↦{fullShare} fR) from rfl)) $$ HR
  sl_exec

  ihave HI2 := (Entails.of_eq (Cov_pts d L (G := posOf (m (yLoc d))) ?hcov)) $$ HI'
  case hcov =>
    sl_unfold_run_names
    repeat' (first | exact Cov_nil _ | refine Cov_cons _ _ ?_ ?_)
    all_goals (intro x; exact pay_ok _ _ _ _ _)
  imod (start_none d (cV L) (jV L) (tabV m d) (m (yLoc d)) (hpre d) fG) $$ [Ht' HG' HI2 HsemC] with HS
  · isplitl [Ht']; · iexact Ht'
    isplitl [HG']; · iexact HG'
    isplitl [HI2]; · iexact HI2
    iexact HsemC
  iapply (start_at d (cV L) (jV L) (tabV m d) (m (yLoc d)) (hpre d) fG 0 1 0 (by decide) rfl rfl) $$ HS
  iintro HS
  rw [wp_bind, show (Pure.pure PUnit.unit : Prog (TpuEff nD τ sig (Elt F) Λ₀ (V d (cV L) (jV L)).2) PUnit) = .ret PUnit.unit from rfl, wp_ret]
  imodintro
  rw [wp_bind]
  iapply (wp_part (part14_run d L (tabV m d) (m (yLoc d)) (hpre d) fG O _)) $$ [HS HO Hmw]
  · isplitl [HS]; · iexact HS
    isplitl [HO] <;> iassumption
  iintro %_ ⟨HB, ⟨%W₁, %hW₁, HO⟩⟩
  ihave #Hmw' := (show levAts (K (F := F)).L (K (F := F)).lev ⊢ Transfers.MayWaits (V d (cV L) (jV L)) (default : HIx 1) O from
    (K (F := F)).mayWaits_none (thr := V d (cV L) (jV L)) hO) $$ Hlv
  iapply (wp_part (part15_run d L (tabV m d) (m (yLoc d)) (hpre d) fG O W₁)) $$ [HB HO]
  · isplitl [HB]; · iexact HB
    isplitl [HO]; · iexact HO
    imodintro; iexact Hmw'
  iintro %a15 ⟨%h15, ⟨Ht', HG', HI'⟩, HsemC, ⟨%W₂, %hW₂, HO⟩⟩
  iapply (wp_part (part16_run d L (gotOf (tabV m d) (m (yLoc d))) a15 h15)) $$ HG'
  iintro %a16 ⟨%h16, HG'⟩
  iapply (wp_part (part17_run d L (gotOf (tabV m d) (m (yLoc d))) a16 h16)) $$ HG'
  iintro %a17 ⟨%h17, HG'⟩
  iapply (wp_part (part18_run d L (gotOf (tabV m d) (m (yLoc d))) fR a17 h17)) $$ [HG' HR']
  · isplitl [HG'] <;> iassumption
  iintro %a18 ⟨%h18, HG', HR'⟩
  iapply (fold_at d L 8#32 (rotIx 8#32) rfl (P := k0_chk1 L (rotIx 8#32)) (fun _ => rotIx_lt 8#32) (fun h => k0_idx1_inb L _ h.down h1)
    (accOf (gotOf (tabV m d) (m (yLoc d))) 64) _ (fun w => congrArg (addf · w) h18)) $$ HR'
  iintro %w1 %hw1 HR'
  have g1 : addf a18 w1 = foldStep 8#32 (accOf (gotOf (tabV m d) (m (yLoc d))) 64) := by rw [h18]; exact hw1
  iapply (fold_at d L 4#32 (rotIx 4#32) rfl (P := k0_chk2 L (rotIx 4#32)) (fun _ => rotIx_lt 4#32) (fun h => k0_idx2_inb L _ h.down h1)
    (foldStep 8#32 (accOf (gotOf (tabV m d) (m (yLoc d))) 64)) _ (fun w => congrArg (addf · w) g1)) $$ HR'
  iintro %w2 %hw2 HR'
  have g2 : addf (addf a18 w1) w2 = foldStep 4#32 (foldStep 8#32 (accOf (gotOf (tabV m d) (m (yLoc d))) 64)) := (congrArg (addf · w2) g1).trans hw2
  iapply (fold_at d L 2#32 (rotIx 2#32) rfl (P := k0_chk3 L (rotIx 2#32)) (fun _ => rotIx_lt 2#32) (fun h => k0_idx3_inb L _ h.down h1)
    (foldStep 4#32 (foldStep 8#32 (accOf (gotOf (tabV m d) (m (yLoc d))) 64))) _ (fun w => congrArg (addf · w) g2)) $$ HR'
  iintro %w3 %hw3 HR'
  have g3 : addf (addf (addf a18 w1) w2) w3 = foldStep 2#32 (foldStep 4#32 (foldStep 8#32 (accOf (gotOf (tabV m d) (m (yLoc d))) 64))) := (congrArg (addf · w3) g2).trans hw3
  rw [show ∀ x : (Σ' (_ : FVec F S16 .f32), IVec S16 32), (Pure.pure x : Prog (TpuEff nD τ sig (Elt F) Λ₀ (V d (cV L) (jV L)).2) _) = .ret x from fun _ => rfl, wp_ret]
  imodintro
  iapply (fold_at d L 1#32 (rotIx 1#32) rfl (P := k0_chk4 L (rotIx 1#32)) (fun _ => rotIx_lt 1#32) (fun h => k0_idx4_inb L _ h.down h1)
    (foldStep 2#32 (foldStep 4#32 (foldStep 8#32 (accOf (gotOf (tabV m d) (m (yLoc d))) 64)))) _ (fun w => congrArg (addf · w) g3)) $$ HR'
  iintro %w4 %hw4 HR'
  sl_exec
  have hres : View.write (Elt F) (rV).view (m (rLoc d)) (resV m d) Finset.univ = resV m d := View.write_whole_univ ..
  ihave Hr2 := (Entails.of_eq (show ((rV).view.loc (V d (cV L) (jV L)) ↦{fullShare} View.write (Elt F) (rV).view (m (rLoc d)) (resV m d) Finset.univ : sProp 𝕄)
    = rPts d (resV m d) from congrArg _ hres)) $$ [Hr']
  · sl_unfold_run_names
    iexact Hr'
  rw [wp_ret]; imodintro
  isplitl [Ht' Hy' Hr2]
  · unfold opOut
    isplitl [Ht']; · iexact Ht'
    isplitl [Hy']; · iexact Hy'
    iexact Hr2
  isplitl [HY' HI' HG' HR' Hbufs]
  · isplitl [HY']; · iexists _; iexact HY'
    isplitl [HI']; · iexists _; iexact HI'
    isplitl [HG']; · iexists _; iexact HG'
    isplitl [HR']; · iexists _; iexact HR'
    iexact Hbufs
  isplitl [HsemA HsemB HsemC Hsems]
  · isplitl [HsemA]; · iexact HsemA
    isplitl [HsemB]; · iexact HsemB
    isplitl [HsemC]; · iexact HsemC
    iexact Hsems
  iexists _
  isplitr [HO]; rotate_left; · iexact HO
  ipureintro; intro p hp
  rcases Finset.mem_insert.mp hp with hp | hp
  · exact .inr (by rw [hp]; rfl)
  rcases hW₂ p hp with hp | hp
  · rcases hW₁ p hp with hp | hp
    · rcases Finset.mem_insert.mp hp with hp | hp
      · exact .inr (by rw [hp]; rfl)
      exact .inl hp
    exact .inr hp
  exact .inr hp

end Tile

end Cert.Proof.Sum

end
-- ==== Proof.Launch.lean ====
/-
  THE LAUNCH. Tile zero takes the call's operands and the other tiles nothing; the main program flattens the table, makes
  the call, and cuts the first lane out of what the tile leaves. Every run ends with that lane as the result.
-/
module

public import proofs.«01_k».proof.Proof.Tile

@[expose] public section

noncomputable section

namespace Cert.Proof.Sum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.ShloMosaic.StableHlo (held)
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "tV" => (Memref.whole Cert.KernelIdeal.main_v0_scv : Memref Cert.KernelIdeal.sig Kind.scVector Space.hbm Cert.KernelIdeal.S102400000 EltTy.f32)
local notation "yV" => (Memref.whole Cert.KernelIdeal.main_arg1_scv : Memref Cert.KernelIdeal.sig Kind.scVector Space.hbm Cert.KernelIdeal.S1024 EltTy.i32)
local notation "rV" => (Memref.whole Cert.KernelIdeal.main_v1_scv : Memref Cert.KernelIdeal.sig Kind.scVector Space.hbm Cert.KernelIdeal.S16 EltTy.f32)
local notation "wY" => (Memref.whole Cert.KernelIdeal.cc0_scratch0 : Memref Cert.KernelIdeal.sig Kind.scVector Space.vmem Cert.KernelIdeal.S1024 EltTy.i32)
local notation "wI" => (Memref.whole Cert.KernelIdeal.cc0_scratch1 : Memref Cert.KernelIdeal.sig Kind.scVector Space.vmem Cert.KernelIdeal.S1024 EltTy.i32)
local notation "wG" => (Memref.whole Cert.KernelIdeal.cc0_scratch2 : Memref Cert.KernelIdeal.sig Kind.scVector Space.vmem Cert.KernelIdeal.S1024 EltTy.f32)
local notation "wR" => (Memref.whole Cert.KernelIdeal.cc0_scratch3 : Memref Cert.KernelIdeal.sig Kind.scVector Space.vmem Cert.KernelIdeal.S16 EltTy.f32)

/-! ## The tiles' obligations -/

/-- A tile's grid coordinates. -/
def tileAt (c : Fin (grid0.bound 0)) (s : Fin (grid0.bound 1)) : grid0.Coords :=
  fun | 0 => c | 1 => s | ⟨_ + 2, h⟩ => absurd h (Nat.not_lt.2 (Nat.le_add_left _ _))

/-- The kernel works on the tile of number zero, and on no other. -/
theorem cond_tile (c : Fin (grid0.bound 0)) (s : Fin (grid0.bound 1)) : k0_cond1 (tileAt c s) = 1#1 ↔ s.val = 0 := by
  revert c s
  decide

theorem defs₀_tile (c : Fin τ.nSC) (s : Fin τ.nSub) :
    defs₀ (F := F) (.scVector c s) 0 ()
      = SparseCore.onTile hcore0 hsub0 (fun c s => cc0__sc_kernel_body (tileAt c s)
          tV (Memref.isWhole_whole _) yV (Memref.isWhole_whole _) rV (Memref.isWhole_whole _)
          wY (Memref.isWhole_whole _) wI (Memref.isWhole_whole _) wG (Memref.isWhole_whole _) wR (Memref.isWhole_whole _)
          cc0_scratch4 cc0_scoped0 cc0_scoped1) ⟨⟩ c s := rfl

omit [FloatOps F] in
theorem waits_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile other than tile zero does nothing: it takes nothing and gives nothing. -/
theorem idle_body (d : Dev nD) (L : grid0.Coords) (h1 : ¬ k0_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_kernel_body L tV (Memref.isWhole_whole _) yV (Memref.isWhole_whole _) rV (Memref.isWhole_whole _)
            wY (Memref.isWhole_whole _) wI (Memref.isWhole_whole _) wG (Memref.isWhole_whole _) wR (Memref.isWhole_whole _)
            cc0_scratch4 cc0_scoped0 cc0_scoped1)
          fun _ => iprop(emp
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_kernel_body_eq_skeleton]; unfold cc0__sc_kernel_body_skel
  rw [dif_neg h1]
  rw [show (Pure.pure PUnit.unit : Prog (TpuEff nD τ sig (Elt F) Λ₀ (V d (cV L) (jV L)).2) PUnit) = .ret PUnit.unit from rfl, wp_ret]
  iintro ⟨-, -, -, HB, HS, HO⟩
  imodintro
  isplitr; · iempintro
  isplitl [HB]; · iexact HB
  isplitl [HS]; · iexact HS
  iexists W
  isplitr; · ipureintro; exact fun p hp => .inl hp
  iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  rw [show (P m).go 0 d c i = (if i.val = 0 then opIn m d else iprop(emp)) from rfl, show (P m).td 0 d c i = (if i.val = 0 then opOut m d else iprop(emp)) from rfl]
  by_cases h0 : i.val = 0
  · rw [if_pos h0, if_pos h0]
    exact (tile_body m d (tileAt ⟨_, hci.1⟩ ⟨_, hci.2⟩) ((cond_tile _ _).mpr h0) hF hpre O W hO).trans (wp_mono frame _ _ fun _ => waits_widen)
  · rw [if_neg h0, if_neg h0]
    exact (idle_body d (tileAt ⟨_, hci.1⟩ ⟨_, hci.2⟩) (fun h => h0 ((cond_tile _ _).mp h)) O W).trans (wp_mono frame _ _ fun _ => waits_widen)

/-! ## All of the operands to tile zero -/

omit [FloatOps F] in
theorem nothing_each {I : Type} (s : Finset I) : (bigSep s fun _ => iprop(emp)) = (iprop(emp) : sProp 𝕄) := bigSep_emp_const s

/-- Of sixteen shares that are all nothing but tile zero's, the whole is tile zero's. -/
theorem bigSep_first (A : sProp 𝕄) :
    (bigSep Finset.univ fun i : Fin ((K (F := F)).nSub 0) => if i.val = 0 then A else iprop(emp)) = A := by
  rw [SparseCore.bigSep_erase' (Finset.mem_univ (⟨0, by rw [nSub_zero]; decide⟩ : Fin ((K (F := F)).nSub 0)))]
  rw [if_pos rfl, bigSep_congr (Ψ := fun _ => iprop(emp)) (fun i hi => if_neg (fun h => (Finset.mem_erase.mp hi).1 (Fin.ext h))), nothing_each]
  exact BI.Entails.antisymm sep_emp.1 sep_emp.2

theorem vecSplit : (K (F := F)).VecSplit' (P m) 0 := by
  intro d c
  show opIn m d ⊢ |={Set.univ}=> iprop(
      (bigSep Finset.univ fun i : Fin ((K (F := F)).nSub 0) => if i.val = 0 then opIn m d else iprop(emp))
      ∗ ((bigSep Finset.univ fun i : Fin ((K (F := F)).nSub 0) => if i.val = 0 then opOut m d else iprop(emp)) -∗ opOut m d))
  rw [bigSep_first, bigSep_first]
  iintro H; imodintro
  isplitl [H]; · iexact H
  iintro H; iexact H

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_each]
  iempintro

/-! ## The main program on the TensorCore -/

variable (ρ : Dev nD → PrngReg)

abbrev aB : DevRef τ sig := Proc.devRef .tc (main_arg0 : Ref sig .tc)
abbrev yB : DevRef τ sig := Proc.devRef .tc (main_arg1 : Ref sig .tc)
abbrev tB : DevRef τ sig := Proc.devRef .tc (main_v0 : Ref sig .tc)
abbrev rB : DevRef τ sig := Proc.devRef .tc (main_v1 : Ref sig .tc)
abbrev fB : DevRef τ sig := Proc.devRef .tc (main_v2 : Ref sig .tc)
abbrev oB : DevRef τ sig := Proc.devRef .tc (main_v3 : Ref sig .tc)

/-- The table flattened; the first lane cut out; the lane as a number without axes. -/
abbrev opFlat : HloOp τ sig (Elt F) := StableHlo.reshape main_arg0 main_v0 (rfl : (.f32 : EltTy) = .f32) shapeCasts_S1024x100000_S102400000
abbrev opLane : HloOp τ sig (Elt F) :=
  StableHlo.unary main_v1 main_v2 ((extractStridedSlice S1 ![0] · slices_S16_S1_0) : (⟨S16, .f32⟩ : BufTy).Contents (Elt F) → (⟨S1, .f32⟩ : BufTy).Contents (Elt F))
abbrev opNum : HloOp τ sig (Elt F) := StableHlo.reshape main_v2 main_v3 (rfl : (.f32 : EltTy) = .f32) shapeCasts_S1_S_

/-- The six arrays of the main program. -/
abbrev allB : Finset (DevRef τ sig) := {aB, yB, tB, rB, fB, oB}

omit [FloatOps F] in
theorem held_allB (d : Dev nD) (W : Valuation τ sig (Elt F)) :
    (held (T d) allB W : sProp 𝕄)
      = iprop((aLoc d ↦{fullShare} W aB) ∗ (yLoc d ↦{fullShare} W yB) ∗ (tLoc d ↦{fullShare} W tB)
          ∗ (rLoc d ↦{fullShare} W rB) ∗ (fLoc d ↦{fullShare} W fB) ∗ oLoc d ↦{fullShare} W oB) := by
  unfold held allB
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_all (d : Dev nD) (W : (b : Ref sig .tc) → Buf (Elt F) ((d.tc : Thread nD τ).loc b)) :
    (unscopedBufs d W : sProp 𝕄)
      = iprop((aLoc d ↦{fullShare} W main_arg0) ∗ (yLoc d ↦{fullShare} W main_arg1) ∗ (tLoc d ↦{fullShare} W main_v0)
          ∗ (rLoc d ↦{fullShare} W main_v1) ∗ (fLoc d ↦{fullShare} W main_v2) ∗ oLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What the arrays hold at the start, after the table is flattened, and after the call. -/
def W0 (d : Dev nD) : Valuation τ sig (Elt F) := fun b => m (d, b)
def W1 (d : Dev nD) : Valuation τ sig (Elt F) := (opFlat (F := F)).result (W0 m d)
def W2 (d : Dev nD) : Valuation τ sig (Elt F) := Function.update (W1 m d) rB (resV m d)
def W3 (d : Dev nD) : Valuation τ sig (Elt F) := (opLane (F := F)).result (W2 m d)
def W4 (d : Dev nD) : Valuation τ sig (Elt F) := (opNum (F := F)).result (W3 m d)

/-- The result: the first lane of what the tile leaves. -/
def sumV (d : Dev nD) : Buf (Elt F) (oLoc d) :=
  shapeCast S_ (extractStridedSlice S1 ![0] (resV m d : FVec F S16 .f32) slices_S16_S1_0) shapeCasts_S1_S_

theorem held_start (d : Dev nD) : (unscopedBufs d (fun b => m ((SparseCore.T d).loc b)) : sProp 𝕄) = held (T d) allB (W0 m d) := by
  rw [unscopedBufs_all, held_allB]; rfl

theorem W1_t (d : Dev nD) : W1 m d tB = tabV m d := StableHlo.reshape_result ..
theorem W1_ne (d : Dev nD) {b : Ref sig .tc} (h : b ≠ main_v0) : W1 m d (Proc.devRef .tc b) = m ((SparseCore.T d).loc b) := StableHlo.reshape_result_ne _ _ _ _ _ _ _ h
theorem W4_o (d : Dev nD) : W4 m d oB = sumV m d := by
  refine (StableHlo.reshape_result ..).trans ?_
  unfold sumV
  show shapeCast S_ (W3 m d fB) shapeCasts_S1_S_ = _
  rw [show W3 m d fB = _ from StableHlo.unary_result .., show W2 m d rB = resV m d from Function.update_self ..]
theorem W4_ne (d : Dev nD) {b : Ref sig .tc} (h0 : b ≠ main_v0) (h1 : b ≠ main_v1) (h2 : b ≠ main_v2) (h3 : b ≠ main_v3) :
    W4 m d (Proc.devRef .tc b) = m ((SparseCore.T d).loc b) := by
  refine (StableHlo.reshape_result_ne _ _ _ _ _ _ _ h3).trans ((StableHlo.unary_result_ne _ _ _ _ _ _ h2).trans ?_)
  exact (Function.update_of_ne (StableHlo.devRef_ne_of_ne h1) _ _).trans (W1_ne m d h0)

theorem held_before (d : Dev nD) :
    (held (T d) allB ((opFlat (F := F)).result (W0 m d)) : sProp 𝕄)
      = iprop((aLoc d ↦{fullShare} m (aLoc d)) ∗ yPts m d ∗ tPts m d ∗ rPts d (m (rLoc d))
          ∗ (fLoc d ↦{fullShare} m (fLoc d)) ∗ oLoc d ↦{fullShare} m (oLoc d)) := by
  show held (SparseCore.T d) allB (W1 m d) = _
  rw [held_allB, W1_t, W1_ne m d (b := main_arg0) (by decide), W1_ne m d (b := main_arg1) (by decide), W1_ne m d (b := main_v1) (by decide),
    W1_ne m d (b := main_v2) (by decide), W1_ne m d (b := main_v3) (by decide)]

theorem held_after (d : Dev nD) :
    (held (T d) allB (W2 m d) : sProp 𝕄)
      = iprop((aLoc d ↦{fullShare} m (aLoc d)) ∗ yPts m d ∗ tPts m d ∗ rPts d (resV m d)
          ∗ (fLoc d ↦{fullShare} m (fLoc d)) ∗ oLoc d ↦{fullShare} m (oLoc d)) := by
  have h : ∀ {b : Ref sig .tc}, b ≠ main_v1 → W2 m d (Proc.devRef .tc b) = W1 m d (Proc.devRef .tc b) :=
    fun hb => Function.update_of_ne (StableHlo.devRef_ne_of_ne hb) _ _
  rw [held_allB, show W2 m d rB = resV m d from Function.update_self .., h (b := main_arg0) (by decide), h (b := main_arg1) (by decide),
    h (b := main_v0) (by decide), h (b := main_v2) (by decide), h (b := main_v3) (by decide),
    W1_t, W1_ne m d (b := main_arg0) (by decide), W1_ne m d (b := main_arg1) (by decide),
    W1_ne m d (b := main_v2) (by decide), W1_ne m d (b := main_v3) (by decide)]

theorem held_end (d : Dev nD) :
    (held (T d) allB ((opNum (F := F)).result ((opLane (F := F)).result (W2 m d))) : sProp 𝕄)
      = iprop((aLoc d ↦{fullShare} m (aLoc d)) ∗ yPts m d ∗ (tLoc d ↦{fullShare} W4 m d tB) ∗ rPts d (W4 m d rB)
          ∗ (fLoc d ↦{fullShare} W4 m d fB) ∗ oLoc d ↦{fullShare} sumV m d) := by
  show held (SparseCore.T d) allB (W4 m d) = _
  rw [held_allB, W4_o, W4_ne m d (b := main_arg0) (by decide) (by decide) (by decide) (by decide),
    W4_ne m d (b := main_arg1) (by decide) (by decide) (by decide) (by decide)]

theorem st0_eq (d : Dev nD) : (bigSep Finset.univ fun c : Fin ((K (F := F)).nCore 0) => (P m).st 0 d c) = opIn m d :=
  bigSep_univ_of_subsingleton (0 : Fin 1)
theorem dn0_eq (d : Dev nD) : (bigSep Finset.univ fun c : Fin ((K (F := F)).nCore 0) => (P m).dn 0 d c) = opOut m d :=
  bigSep_univ_of_subsingleton (0 : Fin 1)

theorem flat_sub : (opFlat (F := F)).bufs ⊆ allB := show ({aB, tB} : Finset (DevRef τ sig)) ⊆ allB by decide
theorem lane_sub : (opLane (F := F)).bufs ⊆ allB := show ({rB, fB} : Finset (DevRef τ sig)) ⊆ allB by decide
theorem num_sub : (opNum (F := F)).bufs ⊆ allB := show ({fB, oB} : Finset (DevRef τ sig)) ⊆ allB by decide

/-- What the main program leaves: its arguments as they were, its result. -/
abbrev FIN (d : Dev nD) : sProp 𝕄 := iprop((aLoc d ↦{fullShare} m (aLoc d)) ∗ yPts m d ∗ oLoc d ↦{fullShare} sumV m d)

/-- The main program: the table flattened, the call, the first lane cut out and its axis dropped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_start]
  simp only [main, wp_bind, wp_pure]
  iintro ⟨#Hctx, Hst, ⟨Hb, Hheld, Hts, -⟩, -⟩
  iapply (StableHlo.wp_hlo_within 𝒱 (SparseCore.T d) none Set.univ (op := opFlat) (S := allB) flat_sub (V := W0 m d)) $$ [Hb Hheld]
  · isplitl [Hb] <;> iassumption
  iintro ⟨Hb, Hheld⟩
  rw [wp_ret]; imodintro
  ihave Hh := (Entails.of_eq (held_before (F := F) m d)) $$ Hheld
  icases Hh with ⟨Ha, Hy, Ht, Hr, Hf, Ho⟩
  iapply ((K (F := F)).wp_run (D (F := F)) 𝒱 (EH := EH) (P := P m) κ d 0) $$ [Hst Ha Hy Ht Hr Hf Ho Hb Hts]
  isplitr; · iexact Hctx
  isplitl [Hst]; · iexact Hst
  isplitl [Hy Ht Hr]
  · rw [st0_eq]
    isplitl [Ht]; · iexact Ht
    isplitl [Hy]; · iexact Hy
    iexact Hr
  iintro ⟨Hst, Hdn⟩
  ihave Hdn' := (Entails.of_eq (dn0_eq m d)) $$ Hdn
  icases Hdn' with ⟨Ht, Hy, Hr⟩
  iapply (StableHlo.wp_hlo_within 𝒱 (SparseCore.T d) none Set.univ (op := opLane) (S := allB) lane_sub (V := W2 m d)) $$ [Hb Ha Hy Ht Hr Hf Ho]
  · isplitl [Hb]; · iexact Hb
    rw [held_after]
    isplitl [Ha]; · iexact Ha
    isplitl [Hy]; · iexact Hy
    isplitl [Ht]; · iexact Ht
    isplitl [Hr]; · iexact Hr
    isplitl [Hf]; · iexact Hf
    iexact Ho
  iintro ⟨Hb, Hheld⟩
  rw [wp_ret]; imodintro
  iapply (StableHlo.wp_hlo_within 𝒱 (SparseCore.T d) none Set.univ (op := opNum) (S := allB) num_sub (V := (opLane (F := F)).result (W2 m d))) $$ [Hb Hheld]
  · isplitl [Hb] <;> iassumption
  iintro ⟨Hb, Hheld⟩
  ihave Hh := (Entails.of_eq (held_end (F := F) m d)) $$ Hheld
  icases Hh with ⟨Ha, Hy, -, -, -, Ho⟩
  rw [wp_ret]; imodintro; imodintro
  isplitl [Hst]; · iexact Hst
  isplitr [Hb Hts]
  · isplitl [Ha]; · iexact Ha
    isplitl [Hy]; · iexact Hy
    iexact Ho
  isplitl [Hb] <;> iassumption

/-- What is read of a device's last state: the result, the arguments as they were. -/
def fq (d : Dev nD) (s' : Phys nD τ sig (Elt F)) : Prop :=
  s'.mem.mem (oLoc d) = sumV m d ∧ s'.mem.mem (aLoc d) = m (aLoc d) ∧ s'.mem.mem (yLoc d) = m (yLoc d)

set_option maxRecDepth 16384 in
theorem hfin (d : Dev nD) (s' : Phys nD τ sig (Elt F)) : iprop(FIN m d ∗ SI s') ⊢ (⌜fq m d s'⌝ : sProp 𝕄) := by
  iintro ⟨⟨Ha, Hy, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := yLoc d) (I := Finset.univ) (q := fullShare) (f := m (yLoc d)))) $$ [HSI Hy]
  · isplitl [HSI] <;> iassumption
  icases H with ⟨%hy, HSI, -⟩
  ihave H := (SI_pointsTo_agree (st := s') (ℓ := oLoc d) (I := Finset.univ) (q := fullShare) (f := sumV m d)) $$ [HSI Ho]
  · isplitl [HSI] <;> iassumption
  icases H with %ho
  ipureintro
  exact ⟨funext fun i => ho i (Finset.mem_univ i), funext fun i => ha i (Finset.mem_univ i), funext fun i => hy i (Finset.mem_univ i)⟩

/-! ## The program's run -/

/-- The run's end: the result is the first lane of the folded sums, the arguments are as they were, every counter is zero. -/
def QC : PUnit × MemSt nD τ sig (Elt F) → Prop := fun r =>
  (∀ c : Dev nD, r.2.mem (oLoc c) = sumV m c ∧ r.2.mem (aLoc c) = m (aLoc c) ∧ r.2.mem (yLoc c) = m (yLoc c)) ∧ r.2.sem = fun _ => 0

/-- Every execution from a memory whose indices are in range ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sum

end
-- ==== Proof.Lanes.lean ====
/-
  THE SUM, AS THE TILE TAKES IT. At the ideal values a lane's running sum is the sum of the words of its rows; the fold by
  eight, four, two and one lanes leaves in lane zero the sum of all sixteen; so lane zero is the sum of the words of all rows.
-/
module

public import proofs.«01_k».proof.Proof.Setup
public import Idealize.ShloMosaic.PureOps.Ideal.Laws

@[expose] public section

noncomputable section

namespace Cert.Proof.Sum

open Cert.KernelIdeal Cert.KernelIdeal.Gen
open Idealize.ShloMosaic

/-- Lane number `l`. -/
def lane (l : Fin 16) : S16.Idx := fun | 0 => l

theorem eq_lane (x : S16.Idx) : x = lane (x 0) := by
  funext a; match a with | 0 => rfl

/-- The lane `k` further round, counted modulo sixteen, for the four distances used. -/
theorem rot_lane (k : Fin 16) (l : Fin 16) : (rotIx (BitVec.ofNat 32 k.val) (lane l)).toNat = (l + k).val := by
  revert k l; decide

/-- One step of the fold, read at a lane. -/
theorem foldStep_lane (k : Fin 16) (v : FVec Ideal S16 .f32) (l : Fin 16) :
    foldStep (F := Ideal) (BitVec.ofNat 32 k.val) v (lane l) = (v (lane l) + v (lane (l + k)) : EReal) := by
  show (v (lane l) + v (idxAt _ _ (lane l)) : EReal) = _
  congr 2
  funext a
  match a with
  | 0 => exact Fin.ext (rot_lane k l)

/-- After the four steps lane zero holds the sum of the sixteen lanes. -/
theorem fold_lanes (v : FVec Ideal S16 .f32) :
    foldStep (F := Ideal) 1#32 (foldStep 2#32 (foldStep 4#32 (foldStep 8#32 v))) (lane 0) = (∑ l : Fin 16, v (lane l) : EReal) := by
  have h1 : ∀ (w : FVec Ideal S16 .f32) l, foldStep (F := Ideal) 1#32 w (lane l) = (w (lane l) + w (lane (l + 1)) : EReal) := foldStep_lane 1
  have h2 : ∀ (w : FVec Ideal S16 .f32) l, foldStep (F := Ideal) 2#32 w (lane l) = (w (lane l) + w (lane (l + 2)) : EReal) := foldStep_lane 2
  have h4 : ∀ (w : FVec Ideal S16 .f32) l, foldStep (F := Ideal) 4#32 w (lane l) = (w (lane l) + w (lane (l + 4)) : EReal) := foldStep_lane 4
  have h8 : ∀ (w : FVec Ideal S16 .f32) l, foldStep (F := Ideal) 8#32 w (lane l) = (w (lane l) + w (lane (l + 8)) : EReal) := foldStep_lane 8
  have key : ∀ f : Fin 16 → EReal, (f 0 + f 8 + (f 4 + f 12) + (f 2 + f 10 + (f 6 + f 14)) + (f 1 + f 9 + (f 5 + f 13) + (f 3 + f 11 + (f 7 + f 15)))) = ∑ l : Fin 16, f l := by
    intro f
    simp only [Fin.sum_univ_castSucc, Fin.sum_univ_zero, zero_add]
    show _ = f 0 + f 1 + f 2 + f 3 + f 4 + f 5 + f 6 + f 7 + f 8 + f 9 + f 10 + f 11 + f 12 + f 13 + f 14 + f 15
    abel
  rw [h1, h2, h2, h4, h4, h4, h4, h8, h8, h8, h8, h8, h8, h8, h8]
  exact key fun l => v (lane l)

/-- A lane's running sum after `n` groups is the sum of its first `n` rows' words. -/
theorem accOf_lane (g : S1024.Idx → EReal) (n : ℕ) (l : S16.Idx) :
    accOf (F := Ideal) g n l = (∑ i ∈ Finset.range n, g (rowAt i l) : EReal) := by
  induction n with
  | zero =>
    show Ideal.ofBits .f32 0x00000000#32 = _
    rw [Idealize.ShloMosaic.Ideal.ofBits_zero_f32, Finset.range_zero, Finset.sum_empty]
  | succ n ih =>
    show (accOf (F := Ideal) g n l + g (rowAt n l) : EReal) = _
    rw [ih, Finset.sum_range_succ]

/-- Sixty-four groups of sixteen rows are all the rows. -/
def rowsEquiv : Fin 64 × Fin 16 ≃ S1024.Idx :=
  (finProdFinEquiv (m := 64) (n := 16)).trans ⟨fun i => fun | 0 => i, fun x => x 0, fun _ => rfl, fun x => funext fun a => by match a with | 0 => rfl⟩

theorem rowsEquiv_eq (p : Fin 64 × Fin 16) : rowsEquiv p = rowAt p.1.val (lane p.2) := by
  funext a
  match a with
  | 0 =>
    refine Fin.ext ?_
    show p.2.val + 16 * p.1.val = (16 * p.1.val + p.2.val) % 1024
    have := p.1.isLt; have := p.2.isLt
    omega

/-- Lane zero of what the tile leaves is the sum, over the rows, of the words gathered. -/
theorem outOf_first (t : S102400000.Idx → EReal) (y : S1024.Idx → BitVec 32) :
    outOf (F := Ideal) t y (lane 0) = (∑ x : S1024.Idx, gotOf (F := Ideal) t y x : EReal) := by
  unfold outOf
  rw [fold_lanes]
  simp only [accOf_lane, Finset.sum_range]
  rw [Finset.sum_comm, ← Fintype.sum_prod_type', ← rowsEquiv.sum_comp]
  exact Finset.sum_congr rfl fun p _ => by rw [rowsEquiv_eq]

/-- The word of row `x`, read off the flattened table, is the table's at row `x` and the row's column. -/
theorem gotOf_flat (A : S1024x100000.Idx → EReal) (y : S1024.Idx → BitVec 32) (hy : ∀ x, (y x).toNat < 100000) (x : S1024.Idx) :
    gotOf (F := Ideal) (shapeCast S102400000 A shapeCasts_S1024x100000_S102400000) y x
      = A (fun | 0 => x 0 | 1 => ⟨(y x).toNat, hy x⟩) := by
  have hx : (x 0).val < 1024 := (x 0).isLt
  have := hy x
  show A (Shape.reshapeEquiv _ _) = _
  congr 1
  refine Shape.reshapeEquiv_eq_of_rowMajor _ ?_
  rw [Shape.rowMajor_val_one, Shape.rowMajor_val_two]
  show (x 0).val * 100000 + (y x).toNat = (posOf y x).toNat % 102400000
  rw [posOf_toNat hy x, Nat.mod_eq_of_lt (by omega)]

end Cert.Proof.Sum

end
-- ==== Proof.Take.lean ====
/-
  THE SUM, AS THE REFERENCE TAKES IT. With every index in range the reference's wrapping of negative indices changes nothing, its
  mask of the indices in range is all ones, its gather reads each row at the row's index, and its sum is the sum over the rows.
-/
module

public import proofs.«01_k».proof.Defs
public import proofs.«01_k».proof.Proof.Gen.ReferenceIdeal
public import proofs.«01_k».proof.Proof.Gen.Pre_in_range
public import Idealize.ShloMosaic.PureOps.Ideal.Laws
public import Idealize.ShloMosaic.Lib.ReduceAll

@[expose] public section

noncomputable section

namespace Cert.Proof.Take

open Cert.ReferenceIdeal Cert.ReferenceIdeal.Gen
open Idealize.ShloMosaic

/-! ## The comparisons, on one index -/

theorem slt_zero_of_lt {w : BitVec 32} (h : w.toNat < 100000) : IntOp.cmpi .slt w 0#32 = 0#1 := by
  show BitVec.ofBool (w.slt 0#32) = 0#1
  rw [BitVec.slt_eq_decide, BitVec.toInt_eq_toNat_cond, if_pos (by omega), show (0#32 : BitVec 32).toInt = 0 by decide, decide_eq_false (by omega)]
  rfl

theorem sge_zero_of_lt {w : BitVec 32} (h : w.toNat < 100000) : IntOp.cmpi .sge w 0#32 = 1#1 := by
  show BitVec.ofBool ((0#32 : BitVec 32).sle w) = 1#1
  rw [BitVec.sle_eq_decide, BitVec.toInt_eq_toNat_cond w, if_pos (by omega)]
  simp

theorem sle_last_of_lt {w : BitVec 32} (h : w.toNat < 100000) : IntOp.cmpi .sle w 99999#32 = 1#1 := by
  show BitVec.ofBool (w.sle 99999#32) = 1#1
  rw [BitVec.sle_eq_decide, BitVec.toInt_eq_toNat_cond w, if_pos (by omega)]
  have : (99999#32 : BitVec 32).toInt = 99999 := by decide
  rw [this, decide_eq_true (by omega)]
  rfl

/-- An index that is at least zero and less than the number of columns, as signed words, is so as a number. -/
theorem lt_of_in_range {w : BitVec 32} (h : IntOp.andi (IntOp.cmpi .sge w 0#32) (IntOp.cmpi .slt w 100000#32) = 1#1) : w.toNat < 100000 := by
  change BitVec.ofBool ((0#32 : BitVec 32).sle w) &&& BitVec.ofBool (w.slt 100000#32) = 1#1 at h
  rw [BitVec.sle_eq_decide, BitVec.slt_eq_decide, show (100000#32 : BitVec 32).toInt = 100000 by decide, show (0#32 : BitVec 32).toInt = 0 by decide] at h
  have hs : decide (0 ≤ w.toInt) = true ∧ decide (w.toInt < 100000) = true := by
    revert h
    generalize decide (0 ≤ w.toInt) = a; generalize decide (w.toInt < 100000) = b
    revert a b; decide
  have h0 := of_decide_eq_true hs.1
  have h1 := of_decide_eq_true hs.2
  have hl := w.isLt
  rw [BitVec.toInt_eq_toNat_cond] at h0 h1
  split at h0 <;> split at h1 <;> omega

/-- What the precondition says of the indices: each names a column. -/
theorem lt_of_pre {F : FTy → Type} [FloatOps F] {A : FVec F S1024x100000 .f32} {y : IVec S1024 32}
    (h : Cert.Pre_in_range.fn (F := F) A y = fun _ => 1#1) (x : S1024.Idx) : (y x).toNat < 100000 := by
  haveI : Subsingleton Cert.Pre_in_range.S_.Idx := ⟨fun a b => funext fun i => i.elim0⟩
  exact lt_of_in_range (Host.reduce_andi_all _ _ _ _ (fun i => i.elim0) (congrFun h _) x)

/-! ## The reference's operations, one after another -/

variable (A : FVec Ideal S1024x100000 .f32) (y : IVec S1024 32)

/-- The indices as a column. -/
abbrev colV : IVec S1024x1 32 := broadcastInDim S1024x1 ![0] bcast_S1024_S1024x1_0 y
/-- The negative ones wrapped. -/
abbrev wrapV : IVec S1024x1 32 :=
  select (cmpi .slt (colV y) (broadcastInDim S1024x1 ![] bcast_S_S1024x1 (constantI S_ 32 0#32)))
    (addi (colV y) (broadcastInDim S1024x1 ![] bcast_S_S1024x1 (constantI S_ 32 100000#32))) (colV y)
abbrev startV : IVec S1024x1x1 32 := shapeCast S1024x1x1 (wrapV y) shapeCasts_S1024x1_S1024x1x1
/-- Whether each is in range. -/
abbrev maskV : IVec S1024x1 1 :=
  Host.reduce IntOp.andi
    (andi (cmpi .sge (startV y) (broadcastInDim S1024x1x1 ![] bcast_S_S1024x1x1 (constantI S_ 32 0#32)))
      (cmpi .sle (startV y) (broadcastInDim S1024x1x1 ![0, 1, 2] bcast_S1x1x1_S1024x1x1_0_1_2 (broadcastInDim S1x1x1 ![2] bcast_S1_S1x1x1_2 (constantI S1 32 99999#32)))))
    (constantI S_ 1 1#1) reducesTo_S1024x1x1_S1024x1_d2 h_S_
/-- The words taken, one of each row. -/
abbrev takenV : FVec Ideal S1024x1 .f32 := Host.gather gather_S1024x100000_S1024x1x1_S1024x1_n_1_0_0_1_2_11 A (startV y)
/-- The reference's result. -/
abbrev totalV : FVec Ideal S_ .f32 :=
  Host.reduceAdd
    (shapeCast S1024 (select (maskV y) (takenV A y) (broadcastInDim S1024x1 ![] bcast_S_S1024x1 (constant S_ .f32 0x7FC00000#32))) shapeCasts_S1024x1_S1024)
    (constant S_ .f32 0x00000000#32) reducesTo_S1024_S_d0 h_S_

/-- A row's number as an index of the indices. -/
def rowIx (r : Fin 1024) : S1024.Idx := fun | 0 => r

theorem eq_rowIx (x : S1024.Idx) : x = rowIx (x 0) := by
  funext a; match a with | 0 => rfl

theorem colV_apply (j : S1024x1.Idx) : colV y j = y (rowIx (j 0)) := by
  show y _ = _
  congr 1
  funext a
  match a with
  | 0 => exact (dif_neg (by decide)).trans (Fin.ext rfl)

variable {y} (hy : ∀ x, (y x).toNat < 100000)
include hy

theorem wrapV_apply (j : S1024x1.Idx) : wrapV y j = y (rowIx (j 0)) := by
  show Scalar.select (IntOp.cmpi .slt (colV y j) 0#32) _ (colV y j) = _
  rw [colV_apply, slt_zero_of_lt (hy _)]
  rfl

theorem startV_apply (j : S1024x1x1.Idx) : startV y j = y (rowIx (j 0)) := by
  show wrapV y (Shape.reshapeEquiv _ j) = _
  rw [wrapV_apply hy]
  congr 2
  have h := Shape.rowMajor_reshapeEquiv shapeCasts_S1024x1_S1024x1x1 j
  rw [Shape.rowMajor_val_two, Shape.rowMajor_val_three] at h
  have h1 : (j 1).val < 1 := (j 1).isLt
  have h2 : (j 2).val < 1 := (j 2).isLt
  have h3 : (Shape.reshapeEquiv shapeCasts_S1024x1_S1024x1x1 j 1).val < 1 := (Shape.reshapeEquiv shapeCasts_S1024x1_S1024x1x1 j 1).isLt
  refine Fin.ext ?_
  simp at h
  omega

theorem maskV_one (j : S1024x1.Idx) : maskV y j = 1#1 := by
  refine Host.reduce_andi_one _ _ _ _ _ rfl fun i => ?_
  show IntOp.andi (IntOp.cmpi .sge (startV y i) 0#32) (IntOp.cmpi .sle (startV y i) 99999#32) = 1#1
  rw [startV_apply hy, sge_zero_of_lt (hy _), sle_last_of_lt (hy _)]
  decide

/-- The gather reads row `r` at the column its index names. -/
theorem takenV_apply (j : S1024x1.Idx) : takenV A y j = A (fun | 0 => j 0 | 1 => ⟨(y (rowIx (j 0))).toNat, hy _⟩) := by
  have hlt := hy (rowIx (j 0))
  show A (GatherDims.operandIdx _ j (startV y)) = _
  congr 1
  funext a
  refine Fin.ext ?_
  match a with
  | 0 =>
    show GatherDims.start _ j (startV y) 0 + GatherDims.batchCoord _ j 0 + GatherDims.offCoord _ j 0 = (j 0).val
    rw [GatherDims.start_batching _ _ _ _ (by decide), GatherDims.offCoord_eq_zero _ _ _ (by decide)]
    unfold GatherDims.batchCoord
    rw [dif_pos (by decide)]
    exact (Nat.add_zero _).trans (Nat.zero_add _)
  | 1 =>
    show GatherDims.start _ j (startV y) 1 + GatherDims.batchCoord _ j 1 + GatherDims.offCoord _ j 1 = (y (rowIx (j 0))).toNat
    rw [GatherDims.batchCoord_eq_zero _ _ _ (by decide), GatherDims.offCoord_eq_zero _ _ _ (by decide)]
    unfold GatherDims.start
    rw [dif_pos (by decide), startV_apply hy]
    show min (y (rowIx (j 0))).toInt.toNat (100000 - 1) + 0 + 0 = _
    rw [BitVec.toInt_eq_toNat_cond, if_pos (by omega)]
    omega

/-- With every index in range the reference's result is the sum over the rows of the word each row's index names. -/
theorem totalV_eq (j : S_.Idx) : totalV A y j = (∑ x : S1024.Idx, A (fun | 0 => x 0 | 1 => ⟨(y x).toNat, hy x⟩) : EReal) := by
  show Ideal.hostReduceAdd _ _ (Ideal.ofBits .f32 0x00000000#32) j = _
  rw [Ideal.hostReduceAdd_total _ (fun b => b.elim0), Ideal.ofBits_zero_f32, zero_add]
  refine Finset.sum_congr rfl fun x _ => ?_
  show Scalar.select (maskV y (Shape.reshapeEquiv _ x)) (takenV A y (Shape.reshapeEquiv _ x)) _ = _
  rw [maskV_one hy, takenV_apply A hy]
  show A _ = _
  have h := Shape.rowMajor_reshapeEquiv shapeCasts_S1024x1_S1024 x
  rw [Shape.rowMajor_val_two, Shape.rowMajor_val_one] at h
  have h3 : (Shape.reshapeEquiv shapeCasts_S1024x1_S1024 x 1).val < 1 := (Shape.reshapeEquiv shapeCasts_S1024x1_S1024 x 1).isLt
  have h0 : Shape.reshapeEquiv shapeCasts_S1024x1_S1024 x 0 = x 0 := by
    refine Fin.ext ?_
    simp at h
    omega
  congr 1
  funext a
  match a with
  | 0 => exact h0
  | 1 => exact Fin.ext (congrArg (fun r => (y r).toNat) ((congrArg rowIx h0).trans (eq_rowIx x).symm))

end Cert.Proof.Take

end
-- ==== Proof.Claims.lean ====
/-
  THE CLAIMS. Each is the program's run read at its arguments and its result: the two programs of the kernel have one text, so one
  run, over any float values, serves both.
-/
module

public import proofs.«01_k».proof.Proof.Launch
public import proofs.«01_k».proof.Proof.Lanes
public import proofs.«01_k».proof.Proof.Take
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel, on the machine's floats: every run from indices in range ends, the table and the indices as they were, every
    counter at zero. -/
theorem frame_kernel : Cert.quiescent_Kernel := fun m ρ h =>
  (θ_run Cert.KernelIdeal.defs _ _).mono (fun _ e => ⟨fun c => (e.1 c).2, e.2⟩)
    (Sum.run_main (F := Bits) m ρ fun d x => Take.lt_of_pre (h d) x)

/-- The kernel, on the extended reals: the same. -/
theorem frame_kernelIdeal : Cert.quiescent_KernelIdeal := fun m ρ h =>
  (θ_run Cert.KernelIdeal.defs _ _).mono (fun _ e => ⟨fun c => (e.1 c).2, e.2⟩)
    (Sum.run_main (F := Ideal) m ρ fun d x => Take.lt_of_pre (h d) x)

/-- The reference, on the extended reals: every run ends, the table and the indices as they were; it has no counter. -/
theorem frame_referenceIdeal : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run (F := Ideal) m ρ)

/-- On the extended reals the kernel's result is the reference's: the sum, over the rows, of the word at the row's index. -/
theorem result_eq (A : FVec Ideal Cert.KernelIdeal.S1024x100000 .f32) (y : IVec Cert.KernelIdeal.S1024 32) (hy : ∀ x, (y x).toNat < 100000) :
    shapeCast Cert.KernelIdeal.S_
      (extractStridedSlice Cert.KernelIdeal.S1 ![0]
        (Sum.outOf (F := Ideal) (shapeCast Cert.KernelIdeal.S102400000 A Cert.KernelIdeal.Gen.shapeCasts_S1024x100000_S102400000) y : FVec Ideal Cert.KernelIdeal.S16 .f32)
        Cert.KernelIdeal.Gen.slices_S16_S1_0) Cert.KernelIdeal.Gen.shapeCasts_S1_S_
      = Take.totalV A y := by
  funext j
  rw [Take.totalV_eq A hy]
  have hl : ∀ k : Cert.KernelIdeal.S1.Idx, extractStridedSlice Cert.KernelIdeal.S1 ![0]
        (Sum.outOf (F := Ideal) (shapeCast Cert.KernelIdeal.S102400000 A Cert.KernelIdeal.Gen.shapeCasts_S1024x100000_S102400000) y : FVec Ideal Cert.KernelIdeal.S16 .f32)
        Cert.KernelIdeal.Gen.slices_S16_S1_0 k = (∑ x : Cert.KernelIdeal.S1024.Idx, A (fun | 0 => x 0 | 1 => ⟨(y x).toNat, hy x⟩) : EReal) := by
    intro k
    refine Eq.trans ?_ ((Sum.outOf_first _ y).trans (Finset.sum_congr rfl fun x _ => Sum.gotOf_flat A y hy x))
    unfold extractStridedSlice
    congr 1
    funext a
    match a with
    | 0 =>
      have h0 : (k 0).val < 1 := (k 0).isLt
      refine Fin.ext ?_
      show 0 + (k 0).val = 0
      omega
  exact hl _

/-- The reference's table and indices, in its own memory. -/
abbrev refA (m : (ℓ : Loc Cert.ReferenceIdeal.nD Cert.ReferenceIdeal.τ Cert.ReferenceIdeal.sig) → Buf (Elt Ideal) ℓ) (c : Dev Cert.ReferenceIdeal.nD) :
    FVec Ideal Cert.ReferenceIdeal.S1024x100000 .f32 :=
  m ((c.tc : Thread Cert.ReferenceIdeal.nD Cert.ReferenceIdeal.τ).loc Cert.ReferenceIdeal.main_arg0)
abbrev refY (m : (ℓ : Loc Cert.ReferenceIdeal.nD Cert.ReferenceIdeal.τ Cert.ReferenceIdeal.sig) → Buf (Elt Ideal) ℓ) (c : Dev Cert.ReferenceIdeal.nD) :
    IVec Cert.ReferenceIdeal.S1024 32 :=
  m ((c.tc : Thread Cert.ReferenceIdeal.nD Cert.ReferenceIdeal.τ).loc Cert.ReferenceIdeal.main_arg1)

/-- Every run of the reference ends with its operations' composed term as the result, the table and the indices as they were. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v3) = Take.totalV (refA m c) (refY m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  Cert.ReferenceIdeal.Value.run (F := Ideal) m ρ

/-- The kernel's result in its memory is the reference's term of the kernel's table and indices. -/
theorem sumV_eq (m : (ℓ : Loc Cert.KernelIdeal.nD Cert.KernelIdeal.τ Cert.KernelIdeal.sig) → Buf (Elt Ideal) ℓ) (hy : Sum.PreOK m) (c : Dev Cert.KernelIdeal.nD)
    {A : FVec Ideal Cert.ReferenceIdeal.S1024x100000 .f32} {y : IVec Cert.ReferenceIdeal.S1024 32} (hA : A = m (Sum.aLoc c)) (hY : y = m (Sum.yLoc c)) :
    Take.totalV A y = Sum.sumV m c := by
  subst hA hY
  exact (result_eq _ _ (hy c)).symm

/-- On the extended reals the kernel and the reference, from the same table and the same indices in range, end with the same
    result, the table and the indices as they were. -/
theorem same_result : Cert.algebraic_KernelIdeal_ReferenceIdeal := fun m ρ m' ρ' h hm =>
  have hy : Sum.PreOK m := fun d x => Take.lt_of_pre (h d) x
  ⟨fun c => Sum.sumV m c,
    (θ_run Cert.KernelIdeal.defs _ _).mono (fun _ e => e.1) (Sum.run_main (F := Ideal) m ρ hy),
    (θ_run Cert.ReferenceIdeal.defs _ _).mono (fun _ e c => ⟨(e c).1.trans (sumV_eq m hy c (hm c).1 (hm c).2), (e c).2⟩) (run_reference m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_kernel, frame_kernelIdeal, frame_referenceIdeal, fun m ρ _ => frame_referenceIdeal m ρ trivial, trivial, same_result⟩

end Cert.Proof

end
